-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v5_4)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v5_4) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x256 : Shape := ⟨2, ![16384, 256]⟩
abbrev S1024x256 : Shape := ⟨2, ![1024, 256]⟩
abbrev S1024 : Shape := ⟨1, ![1024]⟩
abbrev S1x1024 : Shape := ⟨2, ![1, 1024]⟩
abbrev S_ : Shape := ⟨0, ![]⟩
abbrev S16384x1 : Shape := ⟨2, ![16384, 1]⟩
abbrev S256x256 : Shape := ⟨2, ![256, 256]⟩
abbrev S256x1 : Shape := ⟨2, ![256, 1]⟩
abbrev S8x1024 : Shape := ⟨2, ![8, 1024]⟩
abbrev S256 : Shape := ⟨1, ![256]⟩
abbrev S256x1024 : Shape := ⟨2, ![256, 1024]⟩
abbrev S4x1024 : Shape := ⟨2, ![4, 1024]⟩
abbrev S2x1024 : Shape := ⟨2, ![2, 1024]⟩
abbrev S1024x1 : Shape := ⟨2, ![1024, 1]⟩
abbrev S1024x1024 : Shape := ⟨2, ![1024, 1024]⟩
abbrev S1x1x1024 : Shape := ⟨3, ![1, 1, 1024]⟩
abbrev S1 : Shape := ⟨1, ![1]⟩
abbrev S1x1x1 : Shape := ⟨3, ![1, 1, 1]⟩
abbrev S16384x1024 : Shape := ⟨2, ![16384, 1024]⟩
abbrev S16384 : Shape := ⟨1, ![16384]⟩

abbrev nBuf : Space → Nat
  | .hbm => 20
  | .vmem => 31
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024, .f32⟩
  | .hbm, ⟨3, _⟩ => ⟨S1x1024, .f32⟩
  | .hbm, ⟨4, _⟩ => ⟨S1024x256, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S16384x1, .f32⟩
  | .hbm, ⟨9, _⟩ => ⟨S1x1024, .f32⟩
  | .hbm, ⟨10, _⟩ => ⟨S1024x256, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x256, .f32⟩
  | .hbm, ⟨15, _⟩ => ⟨S1024x256, .f32⟩
  | .hbm, ⟨16, _⟩ => ⟨S1x1024, .f32⟩
  | .hbm, ⟨17, _⟩ => ⟨S16384x1024, .f32⟩
  | .hbm, ⟨18, _⟩ => ⟨S16384, .f32⟩
  | .hbm, ⟨19, _⟩ => ⟨S1024, .f32⟩
  | .local _ .vmem, ⟨0, _⟩ => ⟨S256x256, .f32⟩
  | .local _ .vmem, ⟨1, _⟩ => ⟨S256x256, .f32⟩
  | .local _ .vmem, ⟨2, _⟩ => ⟨S1024x256, .f32⟩
  | .local _ .vmem, ⟨3, _⟩ => ⟨S1x1024, .f32⟩
  | .local _ .vmem, ⟨4, _⟩ => ⟨S1x1024, .f32⟩
  | .local _ .vmem, ⟨5, _⟩ => ⟨S256x1, .f32⟩
  | .local _ .vmem, ⟨6, _⟩ => ⟨S256x1, .f32⟩
  | .local _ .vmem, ⟨7, _⟩ => ⟨S1x1024, .f32⟩
  | .local _ .vmem, ⟨8, _⟩ => ⟨S1024x256, .f32⟩
  | .local _ .vmem, ⟨9, _⟩ => ⟨S8x1024, .f32⟩
  | .local _ .vmem, ⟨10, _⟩ => ⟨S1x1024, .f32⟩
  | .local _ .vmem, ⟨11, _⟩ => ⟨S1024x256, .f32⟩
  | .local _ .vmem, ⟨12, _⟩ => ⟨S1x1024, .f32⟩
  | .local _ .vmem, ⟨13, _⟩ => ⟨S1x1024, .f32⟩
  | .local _ .vmem, ⟨14, _⟩ => ⟨S1024x256, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x256, .f32⟩
  | .local _ .vmem, ⟨19, _⟩ => ⟨S1024x256, .f32⟩
  | .local _ .vmem, ⟨20, _⟩ => ⟨S1x1024, .f32⟩
  | .local _ .vmem, ⟨21, _⟩ => ⟨S256x256, .f32⟩
  | .local _ .vmem, ⟨22, _⟩ => ⟨S256x256, .f32⟩
  | .local _ .vmem, ⟨23, _⟩ => ⟨S1024x256, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S256x1, .f32⟩
  | .local _ .vmem, ⟨28, _⟩ => ⟨S256x1, .f32⟩
  | .local _ .vmem, ⟨29, _⟩ => ⟨S256x1024, .f32⟩
  | .local _ .vmem, ⟨30, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_15 : BitVec 32 := 0#32
  let v38 : BitVec 1 := Scalar.cmpi .ne v37 c0_i32_15
  v38

def k0_cond3 (i : grid0.Coords) : BitVec 1 :=
  let arg0 : BitVec 32 := BitVec.ofNat 32 (i 0).val
  let c4_i32_26 : BitVec 32 := 4#32
  let c0_i32_27 : BitVec 32 := 0#32
  let v120 : BitVec 1 := Scalar.cmpi .eq c4_i32_26 c0_i32_27
  let c1_i32_28 : BitVec 32 := 1#32
  let v121 : BitVec 32 := Scalar.select v120 c1_i32_28 c4_i32_26
  let v122 : BitVec 32 := Scalar.remsi arg0 v121
  let c0_i32_30 : BitVec 32 := 0#32
  let v124 : BitVec 1 := Scalar.cmpi .slt v122 c0_i32_30
  let c0_i32_31 : BitVec 32 := 0#32
  let v125 : BitVec 1 := Scalar.cmpi .slt v121 c0_i32_31
  let v126 : BitVec 1 := Scalar.xori v124 v125
  let c0_i32_29 : BitVec 32 := 0#32
  let v123 : BitVec 1 := Scalar.cmpi .ne v122 c0_i32_29
  let v127 : BitVec 1 := Scalar.andi v126 v123
  let v128 : BitVec 32 := Scalar.addi v122 v121
  let v129 : BitVec 32 := Scalar.select v127 v128 v122
  let c3_i32 : BitVec 32 := 3#32
  let v130 : BitVec 1 := Scalar.cmpi .eq v129 c3_i32
  let v131 : BitVec 32 := Scalar.extui v130
  let c0_i32_32 : BitVec 32 := 0#32
  let v132 : BitVec 1 := Scalar.cmpi .ne v131 c0_i32_32
  v132

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := .none

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1024x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1024x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1024x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== ReferenceIdeal.lean ====
abbrev S16384x256 : Shape := ⟨2, ![16384, 256]⟩
abbrev S1024x256 : Shape := ⟨2, ![1024, 256]⟩
abbrev S1024 : Shape := ⟨1, ![1024]⟩
abbrev S_ : Shape := ⟨0, ![]⟩
abbrev S16384 : Shape := ⟨1, ![16384]⟩
abbrev S16384x1 : Shape := ⟨2, ![16384, 1]⟩
abbrev S256x1024 : Shape := ⟨2, ![256, 1024]⟩
abbrev S16384x1024 : Shape := ⟨2, ![16384, 1024]⟩
abbrev S1x1024 : Shape := ⟨2, ![1, 1024]⟩
abbrev S1024x1 : Shape := ⟨2, ![1024, 1]⟩
abbrev S1 : Shape := ⟨1, ![1]⟩
abbrev S1x1 : Shape := ⟨2, ![1, 1]⟩
abbrev S1024x16384 : Shape := ⟨2, ![1024, 16384]⟩

abbrev nBuf : Space → Nat
  | .hbm => 127
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S256x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S1024, .i32⟩
  | .hbm, ⟨56, _⟩ => ⟨S1024, .f32⟩
  | .hbm, ⟨57, _⟩ => ⟨S1024, .i32⟩
  | .hbm, ⟨58, _⟩ => ⟨S1024, .i32⟩
  | .hbm, ⟨59, _⟩ => ⟨S_, .i32⟩
  | .hbm, ⟨60, _⟩ => ⟨S1024, .i32⟩
  | .hbm, ⟨61, _⟩ => ⟨S1024, .i1⟩
  | .hbm, ⟨62, _⟩ => ⟨S_, .i32⟩
  | .hbm, ⟨63, _⟩ => ⟨S1024, .i32⟩
  | .hbm, ⟨64, _⟩ => ⟨S1024, .i32⟩
  | .hbm, ⟨65, _⟩ => ⟨S1024, .i32⟩
  | .hbm, ⟨66, _⟩ => ⟨S1024x1, .i32⟩
  | .hbm, ⟨67, _⟩ => ⟨S1, .i32⟩
  | .hbm, ⟨68, _⟩ => ⟨S_, .i32⟩
  | .hbm, ⟨69, _⟩ => ⟨S1024x1, .i32⟩
  | .hbm, ⟨70, _⟩ => ⟨S1024x1, .i1⟩
  | .hbm, ⟨71, _⟩ => ⟨S1x1, .i32⟩
  | .hbm, ⟨72, _⟩ => ⟨S1024x1, .i32⟩
  | .hbm, ⟨73, _⟩ => ⟨S1024x1, .i1⟩
  | .hbm, ⟨74, _⟩ => ⟨S1024x1, .i1⟩
  | .hbm, ⟨75, _⟩ => ⟨S_, .i1⟩
  | .hbm, ⟨76, _⟩ => ⟨S1024, .i1⟩
  | .hbm, ⟨77, _⟩ => ⟨S16384x1024, .f32⟩
  | .hbm, ⟨78, _⟩ => ⟨S16384x1024, .i1⟩
  | .hbm, ⟨79, _⟩ => ⟨S_, .f32⟩
  | .hbm, ⟨80, _⟩ => ⟨S16384x1024, .f32⟩
  | .hbm, ⟨81, _⟩ => ⟨S16384x1024, .f32⟩
  | .hbm, ⟨82, _⟩ => ⟨S_, .i32⟩
  | .hbm, ⟨83, _⟩ => ⟨S1024, .i32⟩
  | .hbm, ⟨84, _⟩ => ⟨S1024, .i1⟩
  | .hbm, ⟨85, _⟩ => ⟨S_, .i32⟩
  | .hbm, ⟨86, _⟩ => ⟨S1024, .i32⟩
  | .hbm, ⟨87, _⟩ => ⟨S1024, .i32⟩
  | .hbm, ⟨88, _⟩ => ⟨S1024, .i32⟩
  | .hbm, ⟨89, _⟩ => ⟨S1024x1, .i32⟩
  | .hbm, ⟨90, _⟩ => ⟨S1, .i32⟩
  | .hbm, ⟨91, _⟩ => ⟨S_, .i32⟩
  | .hbm, ⟨92, _⟩ => ⟨S1024x1, .i32⟩
  | .hbm, ⟨93, _⟩ => ⟨S1024x1, .i1⟩
  | .hbm, ⟨94, _⟩ => ⟨S1x1, .i32⟩
  | .hbm, ⟨95, _⟩ => ⟨S1024x1, .i32⟩
  | .hbm, ⟨96, _⟩ => ⟨S1024x1, .i1⟩
  | .hbm, ⟨97, _⟩ => ⟨S1024x1, .i1⟩
  | .hbm, ⟨98, _⟩ => ⟨S_, .i1⟩
  | .hbm, ⟨99, _⟩ => ⟨S1024, .i1⟩
  | .hbm, ⟨100, _⟩ => ⟨S1024, .f32⟩
  | .hbm, ⟨101, _⟩ => ⟨S_, .f32⟩
  | .hbm, ⟨102, _⟩ => ⟨S1024, .f32⟩
  | .hbm, ⟨103, _⟩ => ⟨S1024, .f32⟩
  | .hbm, ⟨104, _⟩ => ⟨S_, .f32⟩
  | .hbm, ⟨105, _⟩ => ⟨S1024, .f32⟩
  | .hbm, ⟨106, _⟩ => ⟨S1024, .i1⟩
  | .hbm, ⟨107, _⟩ => ⟨S1024, .f32⟩
  | .hbm, ⟨108, _⟩ => ⟨S1x1024, .f32⟩
  | .hbm, ⟨109, _⟩ => ⟨S16384x1024, .f32⟩
  | .hbm, ⟨110, _⟩ => ⟨S16384x1024, .f32⟩
  | .hbm, ⟨111, _⟩ => ⟨S_, .f32⟩
  | .hbm, ⟨112, _⟩ => ⟨S1024, .f32⟩
  | .hbm, ⟨113, _⟩ => ⟨S1024x16384, .f32⟩
  | .hbm, ⟨114, _⟩ => ⟨S1024x256, .f32⟩
  | .hbm, ⟨115, _⟩ => ⟨S1024x1, .f32⟩
  | .hbm, ⟨116, _⟩ => ⟨S_, .f32⟩
  | .hbm, ⟨117, _⟩ => ⟨S1024x1, .f32⟩
  | .hbm, ⟨118, _⟩ => ⟨S1024x1, .f32⟩
  | .hbm, ⟨119, _⟩ => ⟨S1024x256, .f32⟩
  | .hbm, ⟨120, _⟩ => ⟨S1024x256, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S1024, .f32⟩
  | .hbm, ⟨126, _⟩ => ⟨S1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_call0_v0 : Ref sig .tc := ⟨.hbm, 55, rfl⟩
abbrev main_call0_v1_0 : Ref sig .tc := ⟨.hbm, 56, rfl⟩
abbrev main_v41 : Ref sig .tc := ⟨.hbm, 57, rfl⟩
abbrev main_v42 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v43 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_cst : Ref sig .tc := ⟨.hbm, 101, rfl⟩
abbrev main_call2_v14 : Ref sig .tc := ⟨.hbm, 102, rfl⟩
abbrev main_v44 : Ref sig .tc := ⟨.hbm, 103, rfl⟩
abbrev main_cst_10 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_cst_11 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_cst_12 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_13 : Ref sig .tc := ⟨.hbm, 121, rfl⟩
abbrev main_v59 : Ref sig .tc := ⟨.hbm, 122, rfl⟩
abbrev main_cst_14 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩

abbrev nD : Nat := 1
abbrev τ : Topo := Topo.v7x

variable {F : FTy → Type} [FloatOps F]
-- ==== Proof.EstepBody.lean ====
/-
  The E-step kernel's body, run on any whole staging buffers, in the four cases of its conditionals. Each case says
  what the body leaves in its buffers as named functions of the input blocks and of what the buffers held.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Estep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point computes -/

/-- The responsibilities of one block of rows. -/
def zBlk (x0 : Vec F S256x256 .f32) (x1 : Vec F S1024x256 .f32) (x2 x3 : Vec F S1x1024 .f32) : FVec F S256x1024 .f32 :=
  k0_pay7 x0 x1 x3 x2
/-- The log-normalisers of one block of rows. -/
def lBlk (x0 : Vec F S256x256 .f32) (x1 : Vec F S1024x256 .f32) (x2 x3 : Vec F S1x1024 .f32) : Vec F S256x1 .f32 :=
  k0_pay6 x0 x1 x3 x2
/-- The eight-row running sum with a block's thirty-two slices of eight rows added to it. -/
def accNext (z : FVec F S256x1024 .f32) (acc : Vec F S8x1024 .f32) : Vec F S8x1024 .f32 := k0_pay12 z (k0_pay11 z acc)
/-- The weighted sum of rows with a block's product added to it. -/
def sNext (x0 : Vec F S256x256 .f32) (z : FVec F S256x1024 .f32) (s : Vec F S1024x256 .f32) : Vec F S1024x256 .f32 := k0_pay1 x0 z s
/-- The column sums with the folded eight-row running sum added to them. -/
def zsNext (acc : Vec F S8x1024 .f32) (zs : Vec F S1x1024 .f32) : Vec F S1x1024 .f32 := k0_pay13 acc zs

/-- The two ways to write the zero offsets agree. -/
theorem hz : (![0, 0] : Fin 2 → Nat) = fun _ => 0 := funext fun a => by fin_cases a <;> rfl

/-! ## Loads and stores of a whole buffer -/

/-- A load of the whole buffer after stores the last of which is of the whole buffer reads that store's payload. -/
theorem readCov_last {S : Shape} {sp : Space} (v : View sig .tc sp S .f32) {off : Fin S.rank → Nat}
    (h : off = fun _ => 0) (inb : ∀ a, off a + S.size a ≤ S.size a) (w : S.Idx → Elt F .f32)
    (L : List (View.Piece (Elt F) S .f32)) :
    v.readCov ((⟨Rect.unit off S.size inb, w⟩ : View.Piece (Elt F) S .f32) :: L) (Rect.unit off S.size inb).toLoadRect = w := by
  rw [View.readCov_eq_canon_ld _ _ _ (fun y => ⟨_, List.mem_cons_self, View.mem_set_unit_zero h inb y⟩),
    View.canon_cons_unit_zero h, View.ld_unit_zero h]
/-- A load of a whole block of 256 by 256 reads its contents. -/
theorem read_S256x256 (v : Memref sig .tc .vmem S256x256 .f32) (hv : v.IsWhole) (x : Vec F S256x256 .f32) :
    v.view.readAt (Elt F) (Rect.unit (s := S256x256) ![0, 0] S256x256.size inb_S256x256_S256x256_0_0).toLoadRect (hv.unread x) = x := by
  rw [View.readAt_eq_ld, hv.read_unread]; exact View.ld_unit_zero (S := S256x256) hz _ x
/-- A block of 256 by 256 that was last stored whole holds what was stored. -/
theorem canon_S256x256 (w : Vec F S256x256 .f32) (L : List (View.Piece (Elt F) S256x256 .f32)) :
    View.canon ((⟨Rect.unit (s := S256x256) ![0, 0] S256x256.size inb_S256x256_S256x256_0_0, w⟩ : View.Piece (Elt F) S256x256 .f32) :: L) = w :=
  View.canon_cons_unit_zero (S := S256x256) hz _ w L
/-- A load of a whole block of 256 by 256 after a store of the whole reads what was stored. -/
theorem readCov_S256x256 (v : Memref sig .tc .vmem S256x256 .f32) (w : Vec F S256x256 .f32) (L : List (View.Piece (Elt F) S256x256 .f32)) :
    v.view.readCov ((⟨Rect.unit (s := S256x256) ![0, 0] S256x256.size inb_S256x256_S256x256_0_0, w⟩ : View.Piece (Elt F) S256x256 .f32) :: L)
      (Rect.unit (s := S256x256) ![0, 0] S256x256.size inb_S256x256_S256x256_0_0).toLoadRect = w := readCov_last (S := S256x256) v.view hz _ w L
/-- A load of a whole block of 1024 by 256 reads its contents. -/
theorem read_S1024x256 (v : Memref sig .tc .vmem S1024x256 .f32) (hv : v.IsWhole) (x : Vec F S1024x256 .f32) :
    v.view.readAt (Elt F) (Rect.unit (s := S1024x256) ![0, 0] S1024x256.size inb_S1024x256_S1024x256_0_0).toLoadRect (hv.unread x) = x := by
  rw [View.readAt_eq_ld, hv.read_unread]; exact View.ld_unit_zero (S := S1024x256) hz _ x
/-- A block of 1024 by 256 that was last stored whole holds what was stored. -/
theorem canon_S1024x256 (w : Vec F S1024x256 .f32) (L : List (View.Piece (Elt F) S1024x256 .f32)) :
    View.canon ((⟨Rect.unit (s := S1024x256) ![0, 0] S1024x256.size inb_S1024x256_S1024x256_0_0, w⟩ : View.Piece (Elt F) S1024x256 .f32) :: L) = w :=
  View.canon_cons_unit_zero (S := S1024x256) hz _ w L
/-- A load of a whole block of 1024 by 256 after a store of the whole reads what was stored. -/
theorem readCov_S1024x256 (v : Memref sig .tc .vmem S1024x256 .f32) (w : Vec F S1024x256 .f32) (L : List (View.Piece (Elt F) S1024x256 .f32)) :
    v.view.readCov ((⟨Rect.unit (s := S1024x256) ![0, 0] S1024x256.size inb_S1024x256_S1024x256_0_0, w⟩ : View.Piece (Elt F) S1024x256 .f32) :: L)
      (Rect.unit (s := S1024x256) ![0, 0] S1024x256.size inb_S1024x256_S1024x256_0_0).toLoadRect = w := readCov_last (S := S1024x256) v.view hz _ w L
/-- A load of a whole block of 1 by 1024 reads its contents. -/
theorem read_S1x1024 (v : Memref sig .tc .vmem S1x1024 .f32) (hv : v.IsWhole) (x : Vec F S1x1024 .f32) :
    v.view.readAt (Elt F) (Rect.unit (s := S1x1024) ![0, 0] S1x1024.size inb_S1x1024_S1x1024_0_0).toLoadRect (hv.unread x) = x := by
  rw [View.readAt_eq_ld, hv.read_unread]; exact View.ld_unit_zero (S := S1x1024) hz _ x
/-- A block of 1 by 1024 that was last stored whole holds what was stored. -/
theorem canon_S1x1024 (w : Vec F S1x1024 .f32) (L : List (View.Piece (Elt F) S1x1024 .f32)) :
    View.canon ((⟨Rect.unit (s := S1x1024) ![0, 0] S1x1024.size inb_S1x1024_S1x1024_0_0, w⟩ : View.Piece (Elt F) S1x1024 .f32) :: L) = w :=
  View.canon_cons_unit_zero (S := S1x1024) hz _ w L
/-- A load of a whole block of 1 by 1024 after a store of the whole reads what was stored. -/
theorem readCov_S1x1024 (v : Memref sig .tc .vmem S1x1024 .f32) (w : Vec F S1x1024 .f32) (L : List (View.Piece (Elt F) S1x1024 .f32)) :
    v.view.readCov ((⟨Rect.unit (s := S1x1024) ![0, 0] S1x1024.size inb_S1x1024_S1x1024_0_0, w⟩ : View.Piece (Elt F) S1x1024 .f32) :: L)
      (Rect.unit (s := S1x1024) ![0, 0] S1x1024.size inb_S1x1024_S1x1024_0_0).toLoadRect = w := readCov_last (S := S1x1024) v.view hz _ w L
/-- A load of a whole block of 8 by 1024 reads its contents. -/
theorem read_S8x1024 (v : Memref sig .tc .vmem S8x1024 .f32) (hv : v.IsWhole) (x : Vec F S8x1024 .f32) :
    v.view.readAt (Elt F) (Rect.unit (s := S8x1024) ![0, 0] S8x1024.size inb_S8x1024_S8x1024_0_0).toLoadRect (hv.unread x) = x := by
  rw [View.readAt_eq_ld, hv.read_unread]; exact View.ld_unit_zero (S := S8x1024) hz _ x
/-- A block of 8 by 1024 that was last stored whole holds what was stored. -/
theorem canon_S8x1024 (w : Vec F S8x1024 .f32) (L : List (View.Piece (Elt F) S8x1024 .f32)) :
    View.canon ((⟨Rect.unit (s := S8x1024) ![0, 0] S8x1024.size inb_S8x1024_S8x1024_0_0, w⟩ : View.Piece (Elt F) S8x1024 .f32) :: L) = w :=
  View.canon_cons_unit_zero (S := S8x1024) hz _ w L
/-- A load of a whole block of 8 by 1024 after a store of the whole reads what was stored. -/
theorem readCov_S8x1024 (v : Memref sig .tc .vmem S8x1024 .f32) (w : Vec F S8x1024 .f32) (L : List (View.Piece (Elt F) S8x1024 .f32)) :
    v.view.readCov ((⟨Rect.unit (s := S8x1024) ![0, 0] S8x1024.size inb_S8x1024_S8x1024_0_0, w⟩ : View.Piece (Elt F) S8x1024 .f32) :: L)
      (Rect.unit (s := S8x1024) ![0, 0] S8x1024.size inb_S8x1024_S8x1024_0_0).toLoadRect = w := readCov_last (S := S8x1024) v.view hz _ w L
/-- A load of a whole block of 256 by 1 reads its contents. -/
theorem read_S256x1 (v : Memref sig .tc .vmem S256x1 .f32) (hv : v.IsWhole) (x : Vec F S256x1 .f32) :
    v.view.readAt (Elt F) (Rect.unit (s := S256x1) ![0, 0] S256x1.size inb_S256x1_S256x1_0_0).toLoadRect (hv.unread x) = x := by
  rw [View.readAt_eq_ld, hv.read_unread]; exact View.ld_unit_zero (S := S256x1) hz _ x
/-- A block of 256 by 1 that was last stored whole holds what was stored. -/
theorem canon_S256x1 (w : Vec F S256x1 .f32) (L : List (View.Piece (Elt F) S256x1 .f32)) :
    View.canon ((⟨Rect.unit (s := S256x1) ![0, 0] S256x1.size inb_S256x1_S256x1_0_0, w⟩ : View.Piece (Elt F) S256x1 .f32) :: L) = w :=
  View.canon_cons_unit_zero (S := S256x1) hz _ w L
/-- A load of a whole block of 256 by 1 after a store of the whole reads what was stored. -/
theorem readCov_S256x1 (v : Memref sig .tc .vmem S256x1 .f32) (w : Vec F S256x1 .f32) (L : List (View.Piece (Elt F) S256x1 .f32)) :
    v.view.readCov ((⟨Rect.unit (s := S256x1) ![0, 0] S256x1.size inb_S256x1_S256x1_0_0, w⟩ : View.Piece (Elt F) S256x1 .f32) :: L)
      (Rect.unit (s := S256x1) ![0, 0] S256x1.size inb_S256x1_S256x1_0_0).toLoadRect = w := readCov_last (S := S256x1) v.view hz _ w L

/-- Equal operands give equal values of a function of two operands. -/
theorem app2 {α β γ : Type} (f : α → β → γ) {a a' : α} {b b' : β} (ha : a = a') (hb : b = b') : f a b = f a' b' := by
  subst ha hb; rfl
/-- Equal operands give equal values of a function of three operands. -/
theorem app3 {α β γ δ : Type} (f : α → β → γ → δ) {a a' : α} {b b' : β} {d d' : γ} (ha : a = a') (hb : b = b')
    (hd : d = d') : f a b d = f a' b' d' := by subst ha hb hd; rfl
/-- Equal operands give equal values of a function of four operands. -/
theorem app4 {α β γ δ ε : Type} (f : α → β → γ → δ → ε) {a a' : α} {b b' : β} {d d' : γ} {e e' : δ} (ha : a = a')
    (hb : b = b') (hd : d = d') (he : e = e') : f a b d e = f a' b' d' e' := by subst ha hb hd he; rfl

/-! ## The body's branch conditions -/

/-- The condition of the first conditional: the first point. -/
abbrev cond0 (i : grid0.Coords) : Prop := k0_cond1 i = 1#1
/-- The body's first condition holds at the first step alone. -/
theorem hcond0 : ∀ t : Fin cfg0.N, cond0 (grid0.coords t) ↔ t.val % 64 = 0 :=
  (by decide +kernel : ∀ t : Fin grid0.N, cond0 (grid0.coords t) ↔ t.val % 64 = 0)
/-- The condition of the second conditional: the first point of a chunk of four. -/
abbrev cond1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32)) 0#32) = 1#1
/-- The body's second condition holds at the first block of a chunk. -/
theorem hcond1 : ∀ t : Fin cfg0.N, cond1 (grid0.coords t) ↔ t.val % 4 = 0 :=
  (by decide +kernel : ∀ t : Fin grid0.N, cond1 (grid0.coords t) ↔ t.val % 4 = 0)
/-- The condition of the third conditional: the last point of a chunk of four. -/
abbrev cond2 (i : grid0.Coords) : Prop := k0_cond3 i = 1#1
/-- The body's third condition holds at the last block of a chunk. -/
theorem hcond2 : ∀ t : Fin cfg0.N, cond2 (grid0.coords t) ↔ t.val % 4 = 3 :=
  (by decide +kernel : ∀ t : Fin grid0.N, cond2 (grid0.coords t) ↔ t.val % 4 = 3)

-- the run's proof term is large
set_option maxHeartbeats 2000000 in
/-- The last point of a chunk: the eight-row sum is continued, folded, and added to the column sums. -/
theorem body_last (c : Dev nD) (i : grid0.Coords) (arg1 : Memref sig .tc .vmem S256x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x1 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S8x1024 .f32) (harg8 : arg8.IsWhole)
    (hc0 : ¬cond0 i) (hc1 : ¬cond1 i) (hc2 : cond2 i)
    (x0 : Vec F S256x256 .f32) (x1 : Vec F S1024x256 .f32) (x2 x3 : Vec F S1x1024 .f32) (zs : Vec F S1x1024 .f32) (s : Vec F S1024x256 .f32) (acc : Vec F S8x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare zs ∗ owns (c : Thread nD τ) arg7 fullShare s ∗ owns (c : Thread nD τ) arg8 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (lBlk x0 x1 x2 x3) ∗ owns (c : Thread nD τ) arg6 fullShare (zsNext (accNext (zBlk x0 x1 x2 x3) acc) zs) ∗ owns (c : Thread nD τ) arg7 fullShare (sNext x0 (zBlk x0 x1 x2 x3) s) ∗ owns (c : Thread nD τ) arg8 fullShare (accNext (zBlk x0 x1 x2 x3) acc)) -∗ K ⟨⟩))
      ⊢ wp frame (wpE (defs₀ (F := F)) Variants.none c none) E (cc0__estep_kernel i arg1 harg1 arg2 harg2 arg3 harg3 arg4 harg4 arg5 harg5 arg6 harg6 arg7 harg7 arg8 harg8) K := by
  simp only [cc0__estep_kernel_eq_skeleton]; unfold cc0__estep_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hf7
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (View.read_writes_eq_canon _ _ _ (View.cover_of_tiledL _ S256x1.size (by sl_kernel_rfl))).trans ?_
    sl_unfold_words
    exact (canon_S256x1 _ _).trans (app4 k0_pay6 (read_S256x256 _ harg1 x0) (read_S1024x256 _ harg2 x1) (read_S1x1024 _ harg4 x3) (read_S1x1024 _ harg3 x2))
  isplitl [H5]
  · iexists _; isplitr
    swap; · iexact H5
    ipureintro
    refine (View.read_writes_eq_canon _ _ _ (View.cover_of_tiledL _ S1x1024.size (by sl_kernel_rfl))).trans ?_
    sl_unfold_words
    exact (canon_S1x1024 _ _).trans (app2 k0_pay13 ((readCov_S8x1024 _ _ _).trans (app2 k0_pay12 (app4 k0_pay7 (read_S256x256 _ harg1 x0) (read_S1024x256 _ harg2 x1) (read_S1x1024 _ harg4 x3) (read_S1x1024 _ harg3 x2)) (app2 k0_pay11 (app4 k0_pay7 (read_S256x256 _ harg1 x0) (read_S1024x256 _ harg2 x1) (read_S1x1024 _ harg4 x3) (read_S1x1024 _ harg3 x2)) (read_S8x1024 _ harg8 acc)))) (read_S1x1024 _ harg6 zs))
  isplitl [H6]
  · iexists _; isplitr
    swap; · iexact H6
    ipureintro
    refine (View.read_writes_eq_canon _ _ _ (View.cover_of_tiledL _ S1024x256.size (by sl_kernel_rfl))).trans ?_
    sl_unfold_words
    exact (canon_S1024x256 _ _).trans (app3 k0_pay1 (read_S256x256 _ harg1 x0) (app4 k0_pay7 (read_S256x256 _ harg1 x0) (read_S1024x256 _ harg2 x1) (read_S1x1024 _ harg4 x3) (read_S1x1024 _ harg3 x2)) (read_S1024x256 _ harg7 s))
  iexists _; isplitr
  swap; · iexact H7
  ipureintro
  refine (View.read_writes_eq_canon _ _ _ (View.cover_of_tiledL _ S8x1024.size (by sl_kernel_rfl))).trans ?_
  sl_unfold_words
  exact (canon_S8x1024 _ _).trans (app2 k0_pay12 (app4 k0_pay7 (read_S256x256 _ harg1 x0) (read_S1024x256 _ harg2 x1) (read_S1x1024 _ harg4 x3) (read_S1x1024 _ harg3 x2)) (app2 k0_pay11 (app4 k0_pay7 (read_S256x256 _ harg1 x0) (read_S1024x256 _ harg2 x1) (read_S1x1024 _ harg4 x3) (read_S1x1024 _ harg3 x2)) (read_S8x1024 _ harg8 acc)))

-- the run's proof term is large
set_option maxHeartbeats 2000000 in
/-- A point inside a chunk: the column sums are left as they were. -/
theorem body_mid (c : Dev nD) (i : grid0.Coords) (arg1 : Memref sig .tc .vmem S256x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x1 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S8x1024 .f32) (harg8 : arg8.IsWhole)
    (hc0 : ¬cond0 i) (hc1 : ¬cond1 i) (hc2 : ¬cond2 i)
    (x0 : Vec F S256x256 .f32) (x1 : Vec F S1024x256 .f32) (x2 x3 : Vec F S1x1024 .f32) (zs : Vec F S1x1024 .f32) (s : Vec F S1024x256 .f32) (acc : Vec F S8x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare zs ∗ owns (c : Thread nD τ) arg7 fullShare s ∗ owns (c : Thread nD τ) arg8 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (lBlk x0 x1 x2 x3) ∗ owns (c : Thread nD τ) arg6 fullShare zs ∗ owns (c : Thread nD τ) arg7 fullShare (sNext x0 (zBlk x0 x1 x2 x3) s) ∗ owns (c : Thread nD τ) arg8 fullShare (accNext (zBlk x0 x1 x2 x3) acc)) -∗ K ⟨⟩))
      ⊢ wp frame (wpE (defs₀ (F := F)) Variants.none c none) E (cc0__estep_kernel i arg1 harg1 arg2 harg2 arg3 harg3 arg4 harg4 arg5 harg5 arg6 harg6 arg7 harg7 arg8 harg8) K := by
  simp only [cc0__estep_kernel_eq_skeleton]; unfold cc0__estep_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hf7
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (View.read_writes_eq_canon _ _ _ (View.cover_of_tiledL _ S256x1.size (by sl_kernel_rfl))).trans ?_
    sl_unfold_words
    exact (canon_S256x1 _ _).trans (app4 k0_pay6 (read_S256x256 _ harg1 x0) (read_S1024x256 _ harg2 x1) (read_S1x1024 _ harg4 x3) (read_S1x1024 _ harg3 x2))
  isplitl [H5]
  · iexists _; isplitr; · ipureintro; exact harg6.read_unread _
    iexact H5
  isplitl [H6]
  · iexists _; isplitr
    swap; · iexact H6
    ipureintro
    refine (View.read_writes_eq_canon _ _ _ (View.cover_of_tiledL _ S1024x256.size (by sl_kernel_rfl))).trans ?_
    sl_unfold_words
    exact (canon_S1024x256 _ _).trans (app3 k0_pay1 (read_S256x256 _ harg1 x0) (app4 k0_pay7 (read_S256x256 _ harg1 x0) (read_S1024x256 _ harg2 x1) (read_S1x1024 _ harg4 x3) (read_S1x1024 _ harg3 x2)) (read_S1024x256 _ harg7 s))
  iexists _; isplitr
  swap; · iexact H7
  ipureintro
  refine (View.read_writes_eq_canon _ _ _ (View.cover_of_tiledL _ S8x1024.size (by sl_kernel_rfl))).trans ?_
  sl_unfold_words
  exact (canon_S8x1024 _ _).trans (app2 k0_pay12 (app4 k0_pay7 (read_S256x256 _ harg1 x0) (read_S1024x256 _ harg2 x1) (read_S1x1024 _ harg4 x3) (read_S1x1024 _ harg3 x2)) (app2 k0_pay11 (app4 k0_pay7 (read_S256x256 _ harg1 x0) (read_S1024x256 _ harg2 x1) (read_S1x1024 _ harg4 x3) (read_S1x1024 _ harg3 x2)) (read_S8x1024 _ harg8 acc)))

-- the run's proof term is large
set_option maxHeartbeats 2000000 in
/-- The first point of a later chunk: the eight-row sum starts from zero. -/
theorem body_open (c : Dev nD) (i : grid0.Coords) (arg1 : Memref sig .tc .vmem S256x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x1 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S8x1024 .f32) (harg8 : arg8.IsWhole)
    (hc0 : ¬cond0 i) (hc1 : cond1 i) (hc2 : ¬cond2 i)
    (x0 : Vec F S256x256 .f32) (x1 : Vec F S1024x256 .f32) (x2 x3 : Vec F S1x1024 .f32) (zs : Vec F S1x1024 .f32) (s : Vec F S1024x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare zs ∗ owns (c : Thread nD τ) arg7 fullShare s ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (lBlk x0 x1 x2 x3) ∗ owns (c : Thread nD τ) arg6 fullShare zs ∗ owns (c : Thread nD τ) arg7 fullShare (sNext x0 (zBlk x0 x1 x2 x3) s) ∗ owns (c : Thread nD τ) arg8 fullShare (accNext (zBlk x0 x1 x2 x3) k0_pay10)) -∗ K ⟨⟩))
      ⊢ wp frame (wpE (defs₀ (F := F)) Variants.none c none) E (cc0__estep_kernel i arg1 harg1 arg2 harg2 arg3 harg3 arg4 harg4 arg5 harg5 arg6 harg6 arg7 harg7 arg8 harg8) K := by
  simp only [cc0__estep_kernel_eq_skeleton]; unfold cc0__estep_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, Hk⟩
  obtain rfl := harg1.eq_unread hf0; obtain rfl := harg2.eq_unread hf1; obtain rfl := harg3.eq_unread hf2; obtain rfl := harg4.eq_unread hf3; obtain rfl := harg6.eq_unread hf5; obtain rfl := harg7.eq_unread hf6
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (View.read_writes_eq_canon _ _ _ (View.cover_of_tiledL _ S256x1.size (by sl_kernel_rfl))).trans ?_
    sl_unfold_words
    exact (canon_S256x1 _ _).trans (app4 k0_pay6 (read_S256x256 _ harg1 x0) (read_S1024x256 _ harg2 x1) (read_S1x1024 _ harg4 x3) (read_S1x1024 _ harg3 x2))
  isplitl [H5]
  · iexists _; isplitr; · ipureintro; exact harg6.read_unread _
    iexact H5
  isplitl [H6]
  · iexists _; isplitr
    swap; · iexact H6
    ipureintro
    refine (View.read_writes_eq_canon _ _ _ (View.cover_of_tiledL _ S1024x256.size (by sl_kernel_rfl))).trans ?_
    sl_unfold_words
    exact (canon_S1024x256 _ _).trans (app3 k0_pay1 (read_S256x256 _ harg1 x0) (app4 k0_pay7 (read_S256x256 _ harg1 x0) (read_S1024x256 _ harg2 x1) (read_S1x1024 _ harg4 x3) (read_S1x1024 _ harg3 x2)) (read_S1024x256 _ harg7 s))
  iexists _; isplitr
  swap; · iexact H7
  ipureintro
  refine (View.read_writes_eq_canon _ _ _ (View.cover_of_tiledL _ S8x1024.size (by sl_kernel_rfl))).trans ?_
  sl_unfold_words
  exact (canon_S8x1024 _ _).trans (app2 k0_pay12 (app4 k0_pay7 (read_S256x256 _ harg1 x0) (read_S1024x256 _ harg2 x1) (read_S1x1024 _ harg4 x3) (read_S1x1024 _ harg3 x2)) (app2 k0_pay11 (app4 k0_pay7 (read_S256x256 _ harg1 x0) (read_S1024x256 _ harg2 x1) (read_S1x1024 _ harg4 x3) (read_S1x1024 _ harg3 x2)) (readCov_S8x1024 _ _ _)))

-- the run's proof term is large
set_option maxHeartbeats 2000000 in
/-- The first point: every running sum starts from zero. -/
theorem body_first (c : Dev nD) (i : grid0.Coords) (arg1 : Memref sig .tc .vmem S256x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S256x1 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S8x1024 .f32) (harg8 : arg8.IsWhole)
    (hc0 : cond0 i) (hc1 : cond1 i) (hc2 : ¬cond2 i)
    (x0 : Vec F S256x256 .f32) (x1 : Vec F S1024x256 .f32) (x2 x3 : Vec F S1x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (lBlk x0 x1 x2 x3) ∗ owns (c : Thread nD τ) arg6 fullShare k0_pay8 ∗ owns (c : Thread nD τ) arg7 fullShare (sNext x0 (zBlk x0 x1 x2 x3) k0_pay9) ∗ owns (c : Thread nD τ) arg8 fullShare (accNext (zBlk x0 x1 x2 x3) k0_pay10)) -∗ K ⟨⟩))
      ⊢ wp frame (wpE (defs₀ (F := F)) Variants.none c none) E (cc0__estep_kernel i arg1 harg1 arg2 harg2 arg3 harg3 arg4 harg4 arg5 harg5 arg6 harg6 arg7 harg7 arg8 harg8) K := by
  simp only [cc0__estep_kernel_eq_skeleton]; unfold cc0__estep_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (View.read_writes_eq_canon _ _ _ (View.cover_of_tiledL _ S256x1.size (by sl_kernel_rfl))).trans ?_
    sl_unfold_words
    exact (canon_S256x1 _ _).trans (app4 k0_pay6 (read_S256x256 _ harg1 x0) (read_S1024x256 _ harg2 x1) (read_S1x1024 _ harg4 x3) (read_S1x1024 _ harg3 x2))
  isplitl [H5]
  · iexists _; isplitr
    swap; · iexact H5
    ipureintro
    refine (View.read_writes_eq_canon _ _ _ (View.cover_of_tiledL _ S1x1024.size (by sl_kernel_rfl))).trans ?_
    sl_unfold_words
    exact (canon_S1x1024 _ _).trans rfl
  isplitl [H6]
  · iexists _; isplitr
    swap; · iexact H6
    ipureintro
    refine (View.read_writes_eq_canon _ _ _ (View.cover_of_tiledL _ S1024x256.size (by sl_kernel_rfl))).trans ?_
    sl_unfold_words
    exact (canon_S1024x256 _ _).trans (app3 k0_pay1 (read_S256x256 _ harg1 x0) (app4 k0_pay7 (read_S256x256 _ harg1 x0) (read_S1024x256 _ harg2 x1) (read_S1x1024 _ harg4 x3) (read_S1x1024 _ harg3 x2)) (readCov_S1024x256 _ _ _))
  iexists _; isplitr
  swap; · iexact H7
  ipureintro
  refine (View.read_writes_eq_canon _ _ _ (View.cover_of_tiledL _ S8x1024.size (by sl_kernel_rfl))).trans ?_
  sl_unfold_words
  exact (canon_S8x1024 _ _).trans (app2 k0_pay12 (app4 k0_pay7 (read_S256x256 _ harg1 x0) (read_S1024x256 _ harg2 x1) (read_S1x1024 _ harg4 x3) (read_S1x1024 _ harg3 x2)) (app2 k0_pay11 (app4 k0_pay7 (read_S256x256 _ harg1 x0) (read_S1024x256 _ harg2 x1) (read_S1x1024 _ harg4 x3) (read_S1x1024 _ harg3 x2)) (readCov_S8x1024 _ _ _)))

end Cert.KernelIdeal.Estep
end
-- ==== Proof.Estep.lean ====
/-
  The E-step region: what every window's staging buffer and the carried eight-row running sum hold at every grid
  point, and the pipeline's obligation on the body, from any contents of the buffers at the region's entry.
-/
module

public import proofs.«01_k».proof.Proof.EstepBody

@[expose] public section

set_option maxRecDepth 16384

noncomputable section

namespace Cert.KernelIdeal.Estep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the windows hold -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The responsibilities of point `t`'s rows. -/
def zAt (c : Dev nD) (t : Fin cfg0.N) : FVec F S256x1024 .f32 := zBlk (iblk V c 0 t) (iblk V c 1 t) (iblk V c 2 t) (iblk V c 3 t)
/-- The log-normalisers of point `t`'s rows. -/
def lAt (c : Dev nD) (t : Fin cfg0.N) : Vec F S256x1 .f32 := lBlk (iblk V c 0 t) (iblk V c 1 t) (iblk V c 2 t) (iblk V c 3 t)
/-- The eight-row running sum after point `n`: it starts from zero at every fourth point. -/
def accAt (c : Dev nD) : (n : ℕ) → n < cfg0.N → Vec F S8x1024 .f32
  | 0, h => accNext (zAt V c ⟨0, h⟩) k0_pay10
  | n + 1, h => accNext (zAt V c ⟨n + 1, h⟩) (if (n + 1) % 4 = 0 then k0_pay10 else accAt c n (Nat.lt_of_succ_lt h))
/-- The weighted sum of rows after point `n`. -/
def sAt (c : Dev nD) : (n : ℕ) → n < cfg0.N → Vec F S1024x256 .f32
  | 0, h => sNext (iblk V c 0 ⟨0, h⟩) (zAt V c ⟨0, h⟩) k0_pay9
  | n + 1, h => sNext (iblk V c 0 ⟨n + 1, h⟩) (zAt V c ⟨n + 1, h⟩) (sAt c n (Nat.lt_of_succ_lt h))
/-- The column sums after point `n`: moved at the last point of each chunk of four. -/
def zsAt (c : Dev nD) : (n : ℕ) → n < cfg0.N → Vec F S1x1024 .f32
  | 0, _ => k0_pay8
  | n + 1, h => if (n + 1) % 4 = 3 then zsNext (accAt V c (n + 1) h) (zsAt c n (Nat.lt_of_succ_lt h))
      else zsAt c n (Nat.lt_of_succ_lt h)

/-- The step before a grid step is a grid step. -/
theorem lt_of_pred (t : Fin cfg0.N) : t.val - 1 < cfg0.N := Nat.lt_of_le_of_lt (Nat.sub_le _ _) t.isLt

/-- At the first block of a chunk the eight-row accumulator starts from zero. -/
theorem accAt_open (c : Dev nD) (t : Fin cfg0.N) (h : t.val % 4 = 0) : accAt V c t.val t.isLt = accNext (zAt V c t) k0_pay10 := by
  obtain ⟨n, hn⟩ := t
  cases n with
  | zero => rfl
  | succ n => exact congrArg (accNext _) (if_pos h)
/-- At the other blocks of a chunk the eight-row accumulator goes on from the block before. -/
theorem accAt_step (c : Dev nD) (t : Fin cfg0.N) (h : ¬t.val % 4 = 0) :
    accAt V c t.val t.isLt = accNext (zAt V c t) (accAt V c (t.val - 1) (lt_of_pred t)) := by
  obtain ⟨n, hn⟩ := t
  cases n with
  | zero => exact absurd rfl h
  | succ n => exact congrArg (accNext _) (if_neg h)
/-- At the first block the weighted sum of the rows starts from zero. -/
theorem sAt_first (c : Dev nD) (t : Fin cfg0.N) (h : t.val = 0) :
    sAt V c t.val t.isLt = sNext (iblk V c 0 t) (zAt V c t) k0_pay9 := by
  obtain ⟨n, hn⟩ := t
  cases n with
  | zero => rfl
  | succ n => exact absurd h (Nat.succ_ne_zero n)
/-- At a later block the weighted sum of the rows goes on from the block before. -/
theorem sAt_step (c : Dev nD) (t : Fin cfg0.N) (h : ¬t.val = 0) :
    sAt V c t.val t.isLt = sNext (iblk V c 0 t) (zAt V c t) (sAt V c (t.val - 1) (lt_of_pred t)) := by
  obtain ⟨n, hn⟩ := t
  cases n with
  | zero => exact absurd rfl h
  | succ n => rfl
/-- At the first block the totals are zero. -/
theorem zsAt_first (c : Dev nD) (t : Fin cfg0.N) (h : t.val = 0) : zsAt V c t.val t.isLt = k0_pay8 := by
  obtain ⟨n, hn⟩ := t
  cases n with
  | zero => rfl
  | succ n => exact absurd h (Nat.succ_ne_zero n)
/-- At the last block of a chunk the accumulator, folded, is added to the totals. -/
theorem zsAt_fold (c : Dev nD) (t : Fin cfg0.N) (h : t.val % 4 = 3) :
    zsAt V c t.val t.isLt = zsNext (accAt V c t.val t.isLt) (zsAt V c (t.val - 1) (lt_of_pred t)) := by
  obtain ⟨n, hn⟩ := t
  cases n with
  | zero => exact absurd h (show ¬0 % 4 = 3 by decide)
  | succ n => exact if_pos h
/-- At the blocks between the totals are those of the block before. -/
theorem zsAt_keep (c : Dev nD) (t : Fin cfg0.N) (h0 : ¬t.val = 0) (h : ¬t.val % 4 = 3) :
    zsAt V c t.val t.isLt = zsAt V c (t.val - 1) (lt_of_pred t) := by
  obtain ⟨n, hn⟩ := t
  cases n with
  | zero => exact absurd rfl h0
  | succ n => exact if_neg h

/-! ## Where the column sums' window is idle -/

/-- Whether the column sums' buffer has been stored into since the region's entry, by position. -/
def freshTab : ℕ → Bool
  | 0 => true
  | n + 1 => (0x8000000000000000 : ℕ).testBit n
/-- The table of the steps that the totals' window is unwritten at, from one step to the next. -/
theorem freshTab_step : ∀ t : Fin cfg0.N,
    freshTab (t.val + 1) = ((cfg0.win 5).flush t || (cfg0.idle 5 (cfg0.grid.coords t) && freshTab t.val)) := by decide +kernel
/-- The totals' window is unwritten at a step exactly where the table says so. -/
theorem fresh_eq (t : Fin cfg0.N) : cfg0.fresh 5 t.val = freshTab t.val :=
  Pipeline.Cfg.fresh_tab cfg0 5 freshTab rfl freshTab_step t.val (Nat.le_of_lt t.isLt)
/-- The first block writes the totals. -/
theorem live5_first : ∀ t : Fin cfg0.N, t.val % 64 = 0 → cfg0.idle 5 (grid0.coords t) = false := by decide +kernel
/-- The last block of a chunk writes the totals. -/
theorem live5_last : ∀ t : Fin cfg0.N, t.val % 4 = 3 → cfg0.idle 5 (grid0.coords t) = false := by decide +kernel
/-- A block that is neither the first nor the last of a chunk leaves the totals alone. -/
theorem idle5 : ∀ t : Fin cfg0.N, ¬t.val % 64 = 0 → ¬t.val % 4 = 3 → cfg0.idle 5 (grid0.coords t) = true := by decide +kernel
/-- The totals are not copied out at a block that is not the last of a chunk. -/
theorem noFlush5 : ∀ t : Fin cfg0.N, ¬t.val % 4 = 3 → (cfg0.win 5).flush t = false := by decide +kernel
/-- At the last block of a chunk the totals have been written before. -/
theorem notFresh5 : ∀ t : Fin cfg0.N, t.val % 4 = 3 → cfg0.fresh 5 t.val = false := by
  intro t; rw [fresh_eq t]; revert t; decide +kernel

/-! ## The staging buffers and the carried scratch -/

abbrev ms0 (t : Fin cfg0.N) : Memref sig .tc .vmem S256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x256 .f32 := win0_6.stage (cfg0.slots t 6)
abbrev hs6 (t : Fin cfg0.N) : (ms6 t).IsWhole := hstage0_6 ((cfg0.slots t 6).cast nbuf0_6)
/-- The eight-row running sum's buffer. -/
abbrev scM : Memref sig .tc .vmem S8x1024 .f32 := Memref.whole cc0_scratch0

/-- The region's other scoped buffers, with what they hold beside the running sum's buffer. -/
def others (c : Dev nD) : {R : sProp 𝕄 // (Pipeline.scopedRest spec0 c : sProp 𝕄)
    = iprop((∃ f : Buf (Elt F) ((c : Thread nD τ).loc cc0_scratch0), ((c : Thread nD τ).loc cc0_scratch0) ↦{fullShare} f) ∗ R)} :=
  ⟨_, scopedRest0_eq c⟩

/-- What holds before the grid: the accumulator with some contents, the other buffers and the random register. -/
theorem PhiA_eq (c : Dev nD) :
    (Pipeline.ΦA spec0 c : sProp 𝕄)
      = iprop(iprop((∃ d, owns (c : Thread nD τ) scM fullShare d) ∗ (others (F := F) c).1) ∗ (∃ r, prngReg c r)) := by
  unfold Pipeline.ΦA
  refine (congrArg (fun X => iprop(X ∗ (∃ r, prngReg c r))) (others (F := F) c).2).trans ?_
  simp only [scM, owns_whole]; rfl

/-- The region's invariant before position `n`: the running sum's buffer at what the point before left in it. -/
def PhiS (c : Dev nD) : (n : ℕ) → n ≤ cfg0.N → sProp 𝕄
  | 0, _ => Pipeline.ΦA spec0 c
  | n + 1, hn => iprop(iprop(owns (c : Thread nD τ) scM fullShare (accAt V c n hn) ∗ (others (F := F) c).1) ∗ (∃ r, prngReg c r))

/-- Before the first step the invariant is what holds before the grid. -/
theorem PhiS_zero (c : Dev nD) (n : ℕ) (h : n ≤ cfg0.N) (hz : n = 0) : PhiS V c n h = Pipeline.ΦA spec0 c := by
  subst hz; rfl
/-- After a step the invariant has the accumulator that the step leaves. -/
theorem PhiS_succ (c : Dev nD) (n : ℕ) (hn : n < cfg0.N) :
    PhiS V c (n + 1) hn = iprop(iprop(owns (c : Thread nD τ) scM fullShare (accAt V c n hn) ∗ (others (F := F) c).1) ∗ (∃ r, prngReg c r)) := rfl
/-- Before a later step the invariant has the accumulator that the step before left. -/
theorem PhiS_pos (c : Dev nD) (n : ℕ) (h : n ≤ cfg0.N) (hz : n ≠ 0) :
    PhiS V c n h = iprop(iprop(owns (c : Thread nD τ) scM fullShare (accAt V c (n - 1) (by omega)) ∗ (others (F := F) c).1) ∗ (∃ r, prngReg c r)) := by
  cases n with
  | zero => exact absurd rfl hz
  | succ n => rfl

/-! ## The pipeline's proof data -/

/-- The arrays as the region finds them; after the body each input's buffer at its block and each output's at its
    value; the carried sum in the invariant; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => lAt V c t
    | ⟨5, _⟩ => zsAt V c t.val t.isLt
    | ⟨6, _⟩ => sAt V c t.val t.isLt
  Φ t := PhiS V c t.val (Nat.le_of_lt_succ t.isLt)
  q _ := fullShare
  owed _ := 0

/-- The arrays at the start of the call are the contents it is entered with. -/
theorem A_eq (c : Dev nD) (w : Fin cfg0.W) : (dat V c).A w = V c (Pipeline.arrRef spec0 w) := by dsimp only [dat]
/-- The proof data's invariant before a step. -/
theorem PhiS_castSucc (c : Dev nD) (t : Fin cfg0.N) : (dat V c).Φ t.castSucc = PhiS V c t.val (Nat.le_of_lt t.isLt) := by
  dsimp only [dat]; exact Pipeline.Dat.Φ_castSucc (PhiS V c) t
/-- After a step the first window holds the block it was given. -/
theorem after0 (c : Dev nD) (t : Fin cfg0.N) : (dat V c).after 0 t = iblk V c 0 t := by dsimp only [dat]
/-- After a step the second window holds the block it was given. -/
theorem after1 (c : Dev nD) (t : Fin cfg0.N) : (dat V c).after 1 t = iblk V c 1 t := by dsimp only [dat]
/-- After a step the third window holds the block it was given. -/
theorem after2 (c : Dev nD) (t : Fin cfg0.N) : (dat V c).after 2 t = iblk V c 2 t := by dsimp only [dat]
/-- After a step the fourth window holds the block it was given. -/
theorem after3 (c : Dev nD) (t : Fin cfg0.N) : (dat V c).after 3 t = iblk V c 3 t := by dsimp only [dat]
/-- After a step the fifth window holds the block's log likelihoods. -/
theorem after4 (c : Dev nD) (t : Fin cfg0.N) : (dat V c).after 4 t = lAt V c t := by dsimp only [dat]
/-- After a step the sixth window holds the totals so far. -/
theorem after5 (c : Dev nD) (t : Fin cfg0.N) : (dat V c).after 5 t = zsAt V c t.val t.isLt := by dsimp only [dat]
/-- After a step the seventh window holds the weighted sums of the rows so far. -/
theorem after6 (c : Dev nD) (t : Fin cfg0.N) : (dat V c).after 6 t = sAt V c t.val t.isLt := by dsimp only [dat]
/-- Before a step the first window holds its block of the array. -/
theorem before0 (c : Dev nD) (t : Fin cfg0.N) (d) : (dat V c).before 0 t d = iblk V c 0 t :=
  ((dat V c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
/-- Before a step the second window holds its block of the array. -/
theorem before1 (c : Dev nD) (t : Fin cfg0.N) (d) : (dat V c).before 1 t d = iblk V c 1 t :=
  ((dat V c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
/-- Before a step the third window holds its block of the array. -/
theorem before2 (c : Dev nD) (t : Fin cfg0.N) (d) : (dat V c).before 2 t d = iblk V c 2 t :=
  ((dat V c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
/-- Before a step the fourth window holds its block of the array. -/
theorem before3 (c : Dev nD) (t : Fin cfg0.N) (d) : (dat V c).before 3 t d = iblk V c 3 t :=
  ((dat V c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-- The column sums carry through the points that leave them idle. -/
theorem hcarry5 (c : Dev nD) : ∀ (t : Fin cfg0.N) (_ : t.val ≠ 0), cfg0.idle 5 (grid0.coords t) = true → cfg0.fresh 5 t.val = false →
    (dat V c).after 5 t = (dat V c).after 5 ⟨t.val - 1, by omega⟩ := by
  intro t h0 hi _
  rw [after5, after5]
  by_cases h2 : t.val % 4 = 3
  · rw [live5_last t h2] at hi; exact absurd hi Bool.false_ne_true
  · exact zsAt_keep V c t h0 h2

/-- Before a later step the seventh window holds the weighted sums that the step before left. -/
theorem before6 (c : Dev nD) (t : Fin cfg0.N) (h0 : ¬t.val % 64 = 0) (d) :
    (dat V c).before 6 t d = sAt V c (t.val - 1) (lt_of_pred t) := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dat]
/-- Before the last block of a chunk the sixth window holds the totals that the block before left. -/
theorem before5 (c : Dev nD) (t : Fin cfg0.N) (h2 : t.val % 4 = 3) (d) :
    (dat V c).before 5 t d = zsAt V c (t.val - 1) (lt_of_pred t) := by
  rw [Dat.before_out_traj _ 5 rfl (fun _ _ => rfl) (hcarry5 V c) t.val t rfl d,
    if_neg (by rw [notFresh5 t h2]; exact Bool.false_ne_true)]
  dsimp only [dat]

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))
/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

/-- A step leaves the first window's block as it found it. -/
theorem leaves0 (c : Dev nD) (t : Fin cfg0.N) : (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [show cfg0.idle 0 (grid0.coords t) = false from rfl], after0]
/-- A step leaves the second window's block as it found it. -/
theorem leaves1 (c : Dev nD) (t : Fin cfg0.N) : (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [show cfg0.idle 1 (grid0.coords t) = false from rfl], after1]
/-- A step leaves the third window's block as it found it. -/
theorem leaves2 (c : Dev nD) (t : Fin cfg0.N) : (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [show cfg0.idle 2 (grid0.coords t) = false from rfl], after2]
/-- A step leaves the fourth window's block as it found it. -/
theorem leaves3 (c : Dev nD) (t : Fin cfg0.N) : (dat V c).leavesExact 3 t = owns (c : Thread nD τ) (ms3 t) fullShare (iblk V c 3 t) := by
  rw [show (dat V c).leavesExact 3 t = owns (c : Thread nD τ) (ms3 t) fullShare ((dat V c).after 3 t) from by
    unfold Dat.leavesExact; rw [show cfg0.idle 3 (grid0.coords t) = false from rfl], after3]
/-- A step leaves the block's log likelihoods in the fifth window. -/
theorem leaves4 (c : Dev nD) (t : Fin cfg0.N) : (dat V c).leavesExact 4 t = owns (c : Thread nD τ) (ms4 t) fullShare (lAt V c t) := by
  rw [show (dat V c).leavesExact 4 t = owns (c : Thread nD τ) (ms4 t) fullShare ((dat V c).after 4 t) from by
    unfold Dat.leavesExact; rw [show cfg0.idle 4 (grid0.coords t) = false from rfl], after4]
/-- A step leaves the weighted sums of the rows in the seventh window. -/
theorem leaves6 (c : Dev nD) (t : Fin cfg0.N) : (dat V c).leavesExact 6 t = owns (c : Thread nD τ) (ms6 t) fullShare (sAt V c t.val t.isLt) := by
  rw [show (dat V c).leavesExact 6 t = owns (c : Thread nD τ) (ms6 t) fullShare ((dat V c).after 6 t) from by
    unfold Dat.leavesExact; rw [show cfg0.idle 6 (grid0.coords t) = false from rfl], after6]
/-- A step that writes the totals leaves them in the sixth window. -/
theorem leaves5 (c : Dev nD) (t : Fin cfg0.N) (hi : cfg0.idle 5 (grid0.coords t) = false) :
    (dat V c).leavesExact 5 t = owns (c : Thread nD τ) (ms5 t) fullShare (zsAt V c t.val t.isLt) := by
  rw [show (dat V c).leavesExact 5 t = owns (c : Thread nD τ) (ms5 t) fullShare ((dat V c).after 5 t) from by
    unfold Dat.leavesExact; rw [hi], after5]

set_option maxHeartbeats 4000000 in
/-- The body at any point, by the case its conditionals are in. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4, leaves6]
  have hN : t.val < 64 := lt_of_lt_of_eq t.isLt (show cfg0.N = 64 from N_0)
  by_cases h0 : t.val % 64 = 0
  · have h1 : t.val % 4 = 0 := by omega
    have h2 : ¬t.val % 4 = 3 := by omega
    rw [leaves5 V c t (live5_first t h0)]
    have hz0 : t.val = 0 := by omega
    rw [PhiS_castSucc V c t, PhiS_zero V c _ _ hz0, PhiA_eq]
    rw [accAt_open V c t h1, sAt_first V c t hz0, zsAt_first V c t hz0]
    unfold lAt zAt
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) ((hcond1 t).mpr h1) (fun h => h2 ((hcond2 t).mp h)) (iblk V c 0 t) (iblk V c 1 t) (iblk V c 2 t) (iblk V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, H4, H5, H6, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  by_cases h1 : t.val % 4 = 0
  · have h2 : ¬t.val % 4 = 3 := by omega
    rw [Dat.leavesExact_idle (dat V c) 5 t (idle5 t h0 h2) (noFlush5 t h2)]
    have hz0 : ¬t.val = 0 := by omega
    rw [PhiS_castSucc V c t, PhiS_pos V c _ _ hz0, sAt_step V c t hz0]
    rw [accAt_open V c t h1]
    simp only [before6 V c t h0]
    unfold lAt zAt
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply (body_open c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) ((hcond1 t).mpr h1) (fun h => h2 ((hcond2 t).mp h)) (iblk V c 0 t) (iblk V c 1 t) (iblk V c 2 t) (iblk V c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexists _; iexact HS0
    iintro ⟨H0, H1, H2, H3, H4, H5, H6, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexact H6
  by_cases h2 : t.val % 4 = 3
  · rw [leaves5 V c t (live5_last t h2)]
    have hz0 : ¬t.val = 0 := by omega
    rw [PhiS_castSucc V c t, PhiS_pos V c _ _ hz0, sAt_step V c t hz0]
    rw [zsAt_fold V c t h2]
    rw [accAt_step V c t h1]
    simp only [before6 V c t h0, before5 V c t h2]
    unfold lAt zAt
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply (body_last c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (fun h => h1 ((hcond1 t).mp h)) ((hcond2 t).mpr h2) (iblk V c 0 t) (iblk V c 1 t) (iblk V c 2 t) (iblk V c 3 t) _ _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    iintro ⟨H0, H1, H2, H3, H4, H5, H6, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  rw [Dat.leavesExact_idle (dat V c) 5 t (idle5 t h0 h2) (noFlush5 t h2)]
  have hz0 : ¬t.val = 0 := by omega
  rw [PhiS_castSucc V c t, PhiS_pos V c _ _ hz0, sAt_step V c t hz0]
  rw [accAt_step V c t h1]
  simp only [before6 V c t h0]
  unfold lAt zAt
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply (body_mid c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (fun h => h1 ((hcond1 t).mp h)) (fun h => h2 ((hcond2 t).mp h)) (iblk V c 0 t) (iblk V c 1 t) (iblk V c 2 t) (iblk V c 3 t) _ _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS0]; · iexact HS0
  iintro ⟨H0, H1, H2, H3, H4, H5, H6, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexact H6

/-- The call's body at a grid step is the printed body at the step's blocks. -/
theorem defs₀_row (t : Fin cfg0.N) : defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]

/-- After the last point the invariant gives the launch's back. -/
theorem hout (c : Dev nD) : (dat V c).Φ (Fin.last cfg0.N) ⊢ Pipeline.ΦA spec0 c := by
  have hN : cfg0.N = 64 := N_0
  rw [show (dat V c).Φ (Fin.last cfg0.N) = PhiS V c cfg0.N (Nat.le_refl _) from rfl, PhiS_pos V c _ _ (by omega), PhiA_eq]
  iintro ⟨⟨HS0, HR⟩, Hg⟩
  isplitl [HS0 HR]
  · isplitl [HS0]
    · iexists _; iexact HS0
    iexact HR
  iexact Hg

end Cert.KernelIdeal.Estep

end
-- ==== Proof.Sort.lean ====
/-
  The sort region: what its body leaves in each output window, and the pipeline's obligation on the body, from any
  contents of the buffers at the region's entry.
-/
module

public import proofs.«01_k».proof.Proof.EstepBody

@[expose] public section

set_option maxRecDepth 16384

noncomputable section

namespace Cert.KernelIdeal.Sort

open Cert.KernelIdeal Cert.KernelIdeal.Gen Cert.KernelIdeal.Estep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The mask in the sorted order, from the column sums. -/
def maskOf (zs : Vec F S1x1024 .f32) : Vec F S1x1024 .f32 := k1_pay8 zs
/-- A row of 1024 values put in the sorted order. -/
def lpOf (zs v : Vec F S1x1024 .f32) : Vec F S1x1024 .f32 := k1_pay9 zs v
/-- A row of 1024 values put in the sorted order. -/
def muOf (zs v : Vec F S1x1024 .f32) : Vec F S1x1024 .f32 := k1_pay10 zs v
/-- The means put in the sorted order. -/
def meansOf (zs : Vec F S1x1024 .f32) (v : Vec F S1024x256 .f32) : Vec F S1024x256 .f32 := k1_pay1 (k1_pay6 zs) v
/-- The new means. -/
def newMeansOf (zs : Vec F S1x1024 .f32) (s : Vec F S1024x256 .f32) : Vec F S1024x256 .f32 :=
  k1_pay4 (k1_pay6 zs) (k1_pay7 zs) (k1_pay8 zs) s
/-- The new mixture weights. -/
def newPiOf (zs : Vec F S1x1024 .f32) : Vec F S1x1024 .f32 := k1_pay3 (k1_pay7 zs) (k1_pay8 zs)

set_option maxHeartbeats 2000000 in
/-- The body on any whole staging buffers. -/
theorem sound_kernel (c : Dev nD) (E : Set ℕ) (arg0 : Memref sig .tc .vmem S1x1024 .f32) (harg0 : arg0.IsWhole) (arg1 : Memref sig .tc .vmem S1024x256 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x256 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1x1024 .f32) (harg10 : arg10.IsWhole)
    (x0 : Vec F S1x1024 .f32) (x1 : Vec F S1024x256 .f32) (x2 : Vec F S1x1024 .f32) (x3 : Vec F S1x1024 .f32) (x4 : Vec F S1024x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (maskOf x0) ∗ owns (c : Thread nD τ) arg6 fullShare (lpOf x0 x2) ∗ owns (c : Thread nD τ) arg7 fullShare (muOf x0 x3) ∗ owns (c : Thread nD τ) arg8 fullShare (meansOf x0 x1) ∗ owns (c : Thread nD τ) arg9 fullShare (newMeansOf x0 x4) ∗ owns (c : Thread nD τ) arg10 fullShare (newPiOf x0)) -∗ K ⟨⟩))
      ⊢ wp frame (wpE (defs₀ (F := F)) Variants.none c none) E (cc1__sort_kernel arg0 harg0 arg1 harg1 arg2 harg2 arg3 harg3 arg4 harg4 arg5 harg5 arg6 harg6 arg7 harg7 arg8 harg8 arg9 harg9 arg10 harg10) K := by
  simp only [cc1__sort_kernel_eq_skeleton]; unfold cc1__sort_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg0.eq_unread hf0; obtain rfl := harg1.eq_unread hf1; obtain rfl := harg2.eq_unread hf2; obtain rfl := harg3.eq_unread hf3; obtain rfl := harg4.eq_unread hf4
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (View.read_writes_eq_canon _ _ _ (View.cover_of_tiledL _ S1x1024.size (by sl_kernel_rfl))).trans ?_
    sl_unfold_words
    exact (canon_S1x1024 _ _).trans (congrArg k1_pay8 (read_S1x1024 _ harg0 x0))
  isplitl [H6]
  · iexists _; isplitr
    swap; · iexact H6
    ipureintro
    refine (View.read_writes_eq_canon _ _ _ (View.cover_of_tiledL _ S1x1024.size (by sl_kernel_rfl))).trans ?_
    sl_unfold_words
    exact (canon_S1x1024 _ _).trans (app2 k1_pay9 (read_S1x1024 _ harg0 x0) (read_S1x1024 _ harg2 x2))
  isplitl [H7]
  · iexists _; isplitr
    swap; · iexact H7
    ipureintro
    refine (View.read_writes_eq_canon _ _ _ (View.cover_of_tiledL _ S1x1024.size (by sl_kernel_rfl))).trans ?_
    sl_unfold_words
    exact (canon_S1x1024 _ _).trans (app2 k1_pay10 (read_S1x1024 _ harg0 x0) (read_S1x1024 _ harg3 x3))
  isplitl [H8]
  · iexists _; isplitr
    swap; · iexact H8
    ipureintro
    refine (View.read_writes_eq_canon _ _ _ (View.cover_of_tiledL _ S1024x256.size (by sl_kernel_rfl))).trans ?_
    sl_unfold_words
    exact (canon_S1024x256 _ _).trans (app2 k1_pay1 (congrArg k1_pay6 (read_S1x1024 _ harg0 x0)) (read_S1024x256 _ harg1 x1))
  isplitl [H9]
  · iexists _; isplitr
    swap; · iexact H9
    ipureintro
    refine (View.read_writes_eq_canon _ _ _ (View.cover_of_tiledL _ S1024x256.size (by sl_kernel_rfl))).trans ?_
    sl_unfold_words
    exact (canon_S1024x256 _ _).trans (app4 k1_pay4 (congrArg k1_pay6 (read_S1x1024 _ harg0 x0)) (congrArg k1_pay7 (read_S1x1024 _ harg0 x0)) (congrArg k1_pay8 (read_S1x1024 _ harg0 x0)) (read_S1024x256 _ harg4 x4))
  iexists _; isplitr
  swap; · iexact H10
  ipureintro
  refine (View.read_writes_eq_canon _ _ _ (View.cover_of_tiledL _ S1x1024.size (by sl_kernel_rfl))).trans ?_
  sl_unfold_words
  exact (canon_S1x1024 _ _).trans (app2 k1_pay3 (congrArg k1_pay7 (read_S1x1024 _ harg0 x0)) (congrArg k1_pay8 (read_S1x1024 _ harg0 x0)))

section Region
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The arrays as the region finds them; after the body each input's buffer at its block, each output's at its value. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => maskOf (iblk V c 0 t)
    | ⟨6, _⟩ => lpOf (iblk V c 0 t) (iblk V c 2 t)
    | ⟨7, _⟩ => muOf (iblk V c 0 t) (iblk V c 3 t)
    | ⟨8, _⟩ => meansOf (iblk V c 0 t) (iblk V c 1 t)
    | ⟨9, _⟩ => newMeansOf (iblk V c 0 t) (iblk V c 4 t)
    | ⟨10, _⟩ => newPiOf (iblk V c 0 t)
  Φ _ := Pipeline.ΦA spec1 c
  q _ := fullShare
  owed _ := 0

/-- The arrays at the start of the call are the contents it is entered with. -/
theorem A_eq (c : Dev nD) (w : Fin cfg1.W) : (dat V c).A w = V c (Pipeline.arrRef spec1 w) := by dsimp only [dat]
/-- After a step the first window holds the block it was given. -/
theorem after0 (c : Dev nD) (t : Fin cfg1.N) : (dat V c).after 0 t = iblk V c 0 t := by dsimp only [dat]
/-- After a step the second window holds the block it was given. -/
theorem after1 (c : Dev nD) (t : Fin cfg1.N) : (dat V c).after 1 t = iblk V c 1 t := by dsimp only [dat]
/-- After a step the third window holds the block it was given. -/
theorem after2 (c : Dev nD) (t : Fin cfg1.N) : (dat V c).after 2 t = iblk V c 2 t := by dsimp only [dat]
/-- After a step the fourth window holds the block it was given. -/
theorem after3 (c : Dev nD) (t : Fin cfg1.N) : (dat V c).after 3 t = iblk V c 3 t := by dsimp only [dat]
/-- After a step the fifth window holds the block it was given. -/
theorem after4 (c : Dev nD) (t : Fin cfg1.N) : (dat V c).after 4 t = iblk V c 4 t := by dsimp only [dat]
/-- The call leaves the mask, sorted, in the sixth window. -/
theorem after5 (c : Dev nD) (t : Fin cfg1.N) : (dat V c).after 5 t = maskOf (iblk V c 0 t) := by dsimp only [dat]
/-- The call leaves the log weights, sorted, in the seventh window. -/
theorem after6 (c : Dev nD) (t : Fin cfg1.N) : (dat V c).after 6 t = lpOf (iblk V c 0 t) (iblk V c 2 t) := by dsimp only [dat]
/-- The call leaves the squared norms of the means, sorted, in the eighth window. -/
theorem after7 (c : Dev nD) (t : Fin cfg1.N) : (dat V c).after 7 t = muOf (iblk V c 0 t) (iblk V c 3 t) := by dsimp only [dat]
/-- The call leaves the means, sorted, in the ninth window. -/
theorem after8 (c : Dev nD) (t : Fin cfg1.N) : (dat V c).after 8 t = meansOf (iblk V c 0 t) (iblk V c 1 t) := by dsimp only [dat]
/-- The call leaves the new means in the tenth window. -/
theorem after9 (c : Dev nD) (t : Fin cfg1.N) : (dat V c).after 9 t = newMeansOf (iblk V c 0 t) (iblk V c 4 t) := by dsimp only [dat]
/-- The call leaves the new weights in the eleventh window. -/
theorem after10 (c : Dev nD) (t : Fin cfg1.N) : (dat V c).after 10 t = newPiOf (iblk V c 0 t) := by dsimp only [dat]
/-- Before a step the first window holds its block of the array. -/
theorem before0 (c : Dev nD) (t : Fin cfg1.N) (d) : (dat V c).before 0 t d = iblk V c 0 t :=
  ((dat V c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
/-- Before a step the second window holds its block of the array. -/
theorem before1 (c : Dev nD) (t : Fin cfg1.N) (d) : (dat V c).before 1 t d = iblk V c 1 t :=
  ((dat V c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
/-- Before a step the third window holds its block of the array. -/
theorem before2 (c : Dev nD) (t : Fin cfg1.N) (d) : (dat V c).before 2 t d = iblk V c 2 t :=
  ((dat V c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
/-- Before a step the fourth window holds its block of the array. -/
theorem before3 (c : Dev nD) (t : Fin cfg1.N) (d) : (dat V c).before 3 t d = iblk V c 3 t :=
  ((dat V c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
/-- Before a step the fifth window holds its block of the array. -/
theorem before4 (c : Dev nD) (t : Fin cfg1.N) (d) : (dat V c).before 4 t d = iblk V c 4 t :=
  ((dat V c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d)))
/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t))

/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).Φ t.succ = (dat V c).Φ t.castSucc from rfl,
    show (dat V c).owesAt () t.succ = (dat V c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The call's body at a grid step is the printed body at the step's blocks. -/
theorem defs₀_row (t : Fin cfg1.N) : defs₀ (F := F) .tc cfg1.body (cfg1.bodyArgs t (cfg1.slots t)) = bodyAt1 t := by
  unfold defs₀; rw [Defs.onTc_tc]

/-- The pipeline's obligation on the body, at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Region

end Cert.KernelIdeal.Sort

end
-- ==== Proof.Zout.lean ====
/-
  The responsibilities' region: what its body leaves in its output window, and the pipeline's obligation on the body,
  from any contents of the buffers at the region's entry.
-/
module

public import proofs.«01_k».proof.Proof.EstepBody

@[expose] public section

set_option maxRecDepth 16384

noncomputable section

namespace Cert.KernelIdeal.Zout

open Cert.KernelIdeal Cert.KernelIdeal.Gen Cert.KernelIdeal.Estep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The masked responsibilities of one block of rows, from the sorted means, log weights, square norms, mask and the
    rows' log-normalisers. -/
def zOut (x0 : Vec F S256x256 .f32) (x1 : Vec F S1024x256 .f32) (x2 x3 x4 : Vec F S1x1024 .f32) (x5 : Vec F S256x1 .f32) :
    Vec F S256x1024 .f32 := k2_pay1 x0 x1 x2 x3 x5 x4

/-- Equal operands give equal values of a function of six operands. -/
theorem app6 {α β γ δ ε ζ η : Type} (f : α → β → γ → δ → ε → ζ → η) {a a' : α} {b b' : β} {d d' : γ} {e e' : δ} {g g' : ε} {h h' : ζ}
    (ha : a = a') (hb : b = b') (hd : d = d') (he : e = e') (hg : g = g') (hh : h = h') : f a b d e g h = f a' b' d' e' g' h' := by
  subst ha hb hd he hg hh; rfl
/-- A block of 256 by 1024 that was last stored whole holds what was stored. -/
theorem canon_S256x1024 (w : Vec F S256x1024 .f32) (L : List (View.Piece (Elt F) S256x1024 .f32)) :
    View.canon ((⟨Rect.unit (s := S256x1024) ![0, 0] S256x1024.size inb_S256x1024_S256x1024_0_0, w⟩ : View.Piece (Elt F) S256x1024 .f32) :: L) = w :=
  View.canon_cons_unit_zero (S := S256x1024) hz _ w L

set_option maxHeartbeats 2000000 in
/-- The body on any whole staging buffers. -/
theorem sound_kernel (c : Dev nD) (E : Set ℕ) (i : grid2.Coords) (arg1 : Memref sig .tc .vmem S256x256 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x1 .f32) (harg6 : arg6.IsWhole) (arg7 : Memref sig .tc .vmem S256x1024 .f32) (harg7 : arg7.IsWhole)
    (x0 : Vec F S256x256 .f32) (x1 : Vec F S1024x256 .f32) (x2 : Vec F S1x1024 .f32) (x3 : Vec F S1x1024 .f32) (x4 : Vec F S1x1024 .f32) (x5 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (zOut x0 x1 x2 x3 x4 x5)) -∗ K ⟨⟩))
      ⊢ wp frame (wpE (defs₀ (F := F)) Variants.none c none) E (cc2__zout_kernel i arg1 harg1 arg2 harg2 arg3 harg3 arg4 harg4 arg5 harg5 arg6 harg6 arg7 harg7) K := by
  simp only [cc2__zout_kernel_eq_skeleton]; unfold cc2__zout_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact H6
  ipureintro
  refine (View.read_writes_eq_canon _ _ _ (View.cover_of_tiledL _ S256x1024.size (by sl_kernel_rfl))).trans ?_
  sl_unfold_words
  exact (canon_S256x1024 _ _).trans (app6 k2_pay1 (read_S256x256 _ harg1 x0) (read_S1024x256 _ harg2 x1) (read_S1x1024 _ harg3 x2) (read_S1x1024 _ harg4 x3) (read_S256x1 _ harg6 x5) (read_S1x1024 _ harg5 x4))

section Region
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The arrays as the region finds them; after the body each input's buffer at its block, each output's at its value. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => zOut (iblk V c 0 t) (iblk V c 1 t) (iblk V c 2 t) (iblk V c 3 t) (iblk V c 4 t) (iblk V c 5 t)
  Φ _ := Pipeline.ΦA spec2 c
  q _ := fullShare
  owed _ := 0

/-- The arrays at the start of the call are the contents it is entered with. -/
theorem A_eq (c : Dev nD) (w : Fin cfg2.W) : (dat V c).A w = V c (Pipeline.arrRef spec2 w) := by dsimp only [dat]
/-- After a step the first window holds the block it was given. -/
theorem after0 (c : Dev nD) (t : Fin cfg2.N) : (dat V c).after 0 t = iblk V c 0 t := by dsimp only [dat]
/-- After a step the second window holds the block it was given. -/
theorem after1 (c : Dev nD) (t : Fin cfg2.N) : (dat V c).after 1 t = iblk V c 1 t := by dsimp only [dat]
/-- After a step the third window holds the block it was given. -/
theorem after2 (c : Dev nD) (t : Fin cfg2.N) : (dat V c).after 2 t = iblk V c 2 t := by dsimp only [dat]
/-- After a step the fourth window holds the block it was given. -/
theorem after3 (c : Dev nD) (t : Fin cfg2.N) : (dat V c).after 3 t = iblk V c 3 t := by dsimp only [dat]
/-- After a step the fifth window holds the block it was given. -/
theorem after4 (c : Dev nD) (t : Fin cfg2.N) : (dat V c).after 4 t = iblk V c 4 t := by dsimp only [dat]
/-- After a step the sixth window holds the block it was given. -/
theorem after5 (c : Dev nD) (t : Fin cfg2.N) : (dat V c).after 5 t = iblk V c 5 t := by dsimp only [dat]
/-- After a step the seventh window holds the block's kept responsibilities. -/
theorem after6 (c : Dev nD) (t : Fin cfg2.N) : (dat V c).after 6 t = zOut (iblk V c 0 t) (iblk V c 1 t) (iblk V c 2 t) (iblk V c 3 t) (iblk V c 4 t) (iblk V c 5 t) := by dsimp only [dat]
/-- Before a step the first window holds its block of the array. -/
theorem before0 (c : Dev nD) (t : Fin cfg2.N) (d) : (dat V c).before 0 t d = iblk V c 0 t :=
  ((dat V c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
/-- Before a step the second window holds its block of the array. -/
theorem before1 (c : Dev nD) (t : Fin cfg2.N) (d) : (dat V c).before 1 t d = iblk V c 1 t :=
  ((dat V c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
/-- Before a step the third window holds its block of the array. -/
theorem before2 (c : Dev nD) (t : Fin cfg2.N) (d) : (dat V c).before 2 t d = iblk V c 2 t :=
  ((dat V c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
/-- Before a step the fourth window holds its block of the array. -/
theorem before3 (c : Dev nD) (t : Fin cfg2.N) (d) : (dat V c).before 3 t d = iblk V c 3 t :=
  ((dat V c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
/-- Before a step the fifth window holds its block of the array. -/
theorem before4 (c : Dev nD) (t : Fin cfg2.N) (d) : (dat V c).before 4 t d = iblk V c 4 t :=
  ((dat V c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
/-- Before a step the sixth window holds its block of the array. -/
theorem before5 (c : Dev nD) (t : Fin cfg2.N) (d) : (dat V c).before 5 t d = iblk V c 5 t :=
  ((dat V c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))
/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The call's body at a grid step is the printed body at the step's blocks. -/
theorem defs₀_row (t : Fin cfg2.N) : defs₀ (F := F) .tc cfg2.body (cfg2.bodyArgs t (cfg2.slots t)) = bodyAt2 t := by
  unfold defs₀; rw [Defs.onTc_tc]

/-- The pipeline's obligation on the body, at every point. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

end Region

end Cert.KernelIdeal.Zout

end
-- ==== Proof.Run.lean ====
/-
  The run of the kernel: the contents of every buffer at each boundary between @main's items, the three regions as
  segments, and the launch, which gives the result arrays, the arguments unchanged and every counter at zero.
-/
module

public import proofs.«01_k».proof.Proof.Estep
public import proofs.«01_k».proof.Proof.Sort
public import proofs.«01_k».proof.Proof.Zout
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2]

/-! ## The buffers at each boundary -/

/-- Core `c`'s buffers at launch. -/
abbrev W0 : Dev nD → Valuation τ sig (Elt F) := fun c b => m ((c : Dev nD), b)
/-- The references the first host stretch writes. -/
abbrev wr0 : List (Ref sig .tc) := [main_v0, main_v1, main_cst, main_v2, main_v3]
/-- The first host stretch allocates nothing. -/
theorem fresh0 : (hostOps0 : List (HloOp τ sig (Elt F))).Forall fun op => op.fresh = ∅ := by
  simp only [List.Forall]; repeat' constructor
/-- The first host stretch writes its listed references alone. -/
theorem writes0 : (hostOps0 : List (HloOp τ sig (Elt F))).Forall fun op => op.writes ⊆ (wr0.map (Proc.devRef (τ := τ) .tc)).toFinset :=
  StableHlo.forall_writes_sub_of_map rfl
/-- The references the last host stretch writes. -/
abbrev wr3 : List (Ref sig .tc) := [main_v7, main_v8]
/-- The last host stretch allocates nothing. -/
theorem fresh3 : (hostOps3 : List (HloOp τ sig (Elt F))).Forall fun op => op.fresh = ∅ := by
  simp only [List.Forall]; repeat' constructor
/-- The last host stretch writes its listed references alone. -/
theorem writes3 : (hostOps3 : List (HloOp τ sig (Elt F))).Forall fun op => op.writes ⊆ (wr3.map (Proc.devRef (τ := τ) .tc)).toFinset :=
  StableHlo.forall_writes_sub_of_map rfl

/-- After the first host stretch. -/
def W1 (c : Dev nD) : Valuation τ sig (Elt F) := StableHlo.after hostOps0 (W0 m c)
/-- The first host stretch leaves what it does not write. -/
theorem W1_of (c : Dev nD) (r : Ref sig .tc) (h : r ∉ wr0) : W1 m c (Proc.devRef .tc r) = W0 m c (Proc.devRef .tc r) := by
  unfold W1; exact StableHlo.after_of_writes_sub hostOps0 _ writes0 h
/-- After the first host stretch the arguments are as at the launch. -/
theorem W1_args (c : Dev nD) : ∀ a ∈ argRefs, W1 m c (Proc.devRef .tc a) = m ((c : Thread nD τ).loc a) := fun a ha =>
  (W1_of m c a ((ListAll.forall_mem_of_all_decide (p := fun a => a ∉ wr0) (l := argRefs) (by decide +kernel)) a ha)).trans rfl
/-- The same, at the TensorCore's references. -/
abbrev V1 : (c : Dev nD) → (b : Ref sig .tc) → Buf (Elt F) ((c : Thread nD τ).loc b) := fun c b => W1 m c b

/-- After region 0: its arrays as the pipeline leaves them, everything else as it was. -/
def W2 (c : Dev nD) : Valuation τ sig (Elt F) :=
  Pipeline.withArrays spec0 c (W1 m c) fun w => (Estep.dat (V1 m) c).arrAt w cfg0.N
/-- After the first call each of its arrays holds what the grid left. -/
theorem W2_arr (c : Dev nD) (w : Fin cfg0.W) :
    W2 m c (Proc.devRef .tc (Pipeline.arrRef spec0 w)) = (Estep.dat (V1 m) c).arrAt w cfg0.N := by
  unfold W2; exact Pipeline.withArrays_arr spec0 launch0.win.arr_inj c _ _ w
/-- The first call leaves every buffer that is none of its arrays. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A buffer that is no output array of region 0 is unchanged by it. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((Estep.dat (V1 m) c).arrAt_in w (h w rfl) _).trans (Estep.A_eq (V1 m) c w))
  · exact W2_of_ne m c r fun w e => hw ⟨w, e⟩
/-- The first call writes none of the arguments. -/
theorem argsIn0 : ∀ a ∈ argRefs, ∀ w : Fin cfg0.W, Pipeline.arrRef spec0 w = a → (cfg0.win w).isOut = false :=
  ListAll.forall_mem_of_all_decide (by decide +kernel)
/-- After the first call the arguments are as at the launch. -/
theorem W2_args (c : Dev nD) : ∀ a ∈ argRefs, W2 m c (Proc.devRef .tc a) = m ((c : Thread nD τ).loc a) :=
  fun a ha => (W2_of m c a (argsIn0 a ha)).trans (W1_args m c a ha)
/-- The same, at the TensorCore's references. -/
abbrev V2 : (c : Dev nD) → (b : Ref sig .tc) → Buf (Elt F) ((c : Thread nD τ).loc b) := fun c b => W2 m c b
/-- The arrays at the end of the first call are the contents after it. -/
theorem hF0 (c : Dev nD) (w : Fin cfg0.W) : (Estep.dat (V1 m) c).arrAt w cfg0.N = V2 m c (Pipeline.arrRef spec0 w) :=
  (W2_arr m c w).symm
/-- The buffers that are no arrays of the first call are unchanged after it. -/
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: its arrays as the pipeline leaves them, everything else as it was. -/
def W3 (c : Dev nD) : Valuation τ sig (Elt F) :=
  Pipeline.withArrays spec1 c (W2 m c) fun w => (Sort.dat (V2 m) c).arrAt w cfg1.N
/-- After the second call each of its arrays holds what the grid left. -/
theorem W3_arr (c : Dev nD) (w : Fin cfg1.W) :
    W3 m c (Proc.devRef .tc (Pipeline.arrRef spec1 w)) = (Sort.dat (V2 m) c).arrAt w cfg1.N := by
  unfold W3; exact Pipeline.withArrays_arr spec1 launch1.win.arr_inj c _ _ w
/-- The second call leaves every buffer that is none of its arrays. -/
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- A buffer that is no output array of region 1 is unchanged by it. -/
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((Sort.dat (V2 m) c).arrAt_in w (h w rfl) _).trans (Sort.A_eq (V2 m) c w))
  · exact W3_of_ne m c r fun w e => hw ⟨w, e⟩
/-- The second call writes none of the arguments. -/
theorem argsIn1 : ∀ a ∈ argRefs, ∀ w : Fin cfg1.W, Pipeline.arrRef spec1 w = a → (cfg1.win w).isOut = false :=
  ListAll.forall_mem_of_all_decide (by decide +kernel)
/-- After the second call the arguments are as at the launch. -/
theorem W3_args (c : Dev nD) : ∀ a ∈ argRefs, W3 m c (Proc.devRef .tc a) = m ((c : Thread nD τ).loc a) :=
  fun a ha => (W3_of m c a (argsIn1 a ha)).trans (W2_args m c a ha)
/-- The same, at the TensorCore's references. -/
abbrev V3 : (c : Dev nD) → (b : Ref sig .tc) → Buf (Elt F) ((c : Thread nD τ).loc b) := fun c b => W3 m c b
/-- The arrays at the end of the second call are the contents after it. -/
theorem hF1 (c : Dev nD) (w : Fin cfg1.W) : (Sort.dat (V2 m) c).arrAt w cfg1.N = V3 m c (Pipeline.arrRef spec1 w) :=
  (W3_arr m c w).symm
/-- The buffers that are no arrays of the second call are unchanged after it. -/
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After region 2: its arrays as the pipeline leaves them, everything else as it was. -/
def W4 (c : Dev nD) : Valuation τ sig (Elt F) :=
  Pipeline.withArrays spec2 c (W3 m c) fun w => (Zout.dat (V3 m) c).arrAt w cfg2.N
/-- After the third call each of its arrays holds what the grid left. -/
theorem W4_arr (c : Dev nD) (w : Fin cfg2.W) :
    W4 m c (Proc.devRef .tc (Pipeline.arrRef spec2 w)) = (Zout.dat (V3 m) c).arrAt w cfg2.N := by
  unfold W4; exact Pipeline.withArrays_arr spec2 launch2.win.arr_inj c _ _ w
/-- The third call leaves every buffer that is none of its arrays. -/
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- A buffer that is no output array of region 2 is unchanged by it. -/
theorem W4_of (c : Dev nD) (r : Ref sig .tc) (h : ∀ w : Fin cfg2.W, Pipeline.arrRef spec2 w = r → (cfg2.win w).isOut = false) :
    W4 m c (Proc.devRef .tc r) = W3 m c (Proc.devRef .tc r) := by
  by_cases hw : ∃ w : Fin cfg2.W, Pipeline.arrRef spec2 w = r
  · obtain ⟨w, rfl⟩ := hw
    exact (W4_arr m c w).trans (((Zout.dat (V3 m) c).arrAt_in w (h w rfl) _).trans (Zout.A_eq (V3 m) c w))
  · exact W4_of_ne m c r fun w e => hw ⟨w, e⟩
/-- The third call writes none of the arguments. -/
theorem argsIn2 : ∀ a ∈ argRefs, ∀ w : Fin cfg2.W, Pipeline.arrRef spec2 w = a → (cfg2.win w).isOut = false :=
  ListAll.forall_mem_of_all_decide (by decide +kernel)
/-- After the third call the arguments are as at the launch. -/
theorem W4_args (c : Dev nD) : ∀ a ∈ argRefs, W4 m c (Proc.devRef .tc a) = m ((c : Thread nD τ).loc a) :=
  fun a ha => (W4_of m c a (argsIn2 a ha)).trans (W3_args m c a ha)
/-- The same, at the TensorCore's references. -/
abbrev V4 : (c : Dev nD) → (b : Ref sig .tc) → Buf (Elt F) ((c : Thread nD τ).loc b) := fun c b => W4 m c b
/-- The arrays at the end of the third call are the contents after it. -/
theorem hF2 (c : Dev nD) (w : Fin cfg2.W) : (Zout.dat (V3 m) c).arrAt w cfg2.N = V4 m c (Pipeline.arrRef spec2 w) :=
  (W4_arr m c w).symm
/-- The buffers that are no arrays of the third call are unchanged after it. -/
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the last host stretch. -/
def W5 (c : Dev nD) : Valuation τ sig (Elt F) := StableHlo.after hostOps3 (W4 m c)
/-- The last host stretch leaves what it does not write. -/
theorem W5_of (c : Dev nD) (r : Ref sig .tc) (h : r ∉ wr3) : W5 m c (Proc.devRef .tc r) = W4 m c (Proc.devRef .tc r) := by
  unfold W5; exact StableHlo.after_of_writes_sub hostOps3 _ writes3 h
/-- After the last host stretch the arguments are as at the launch. -/
theorem W5_args (c : Dev nD) : ∀ a ∈ argRefs, W5 m c (Proc.devRef .tc a) = m ((c : Thread nD τ).loc a) := fun a ha =>
  (W5_of m c a ((ListAll.forall_mem_of_all_decide (p := fun a => a ∉ wr3) (l := argRefs) (by decide +kernel)) a ha)).trans (W4_args m c a ha)

/-! ## The proof data and the thread state -/

/-- No pipeline has a prefetched table. -/
abbrev adm : (p : Fin 3) → (pcfgs (F := F) p).Adm := fun p => (cfgs p).toPCfg_adm
/-- Every pipeline's proof data, at its region's entry contents. -/
def pdats : (p : Fin 3) → (c : Dev nD) → Dat τ (Elt F) Unit ℕ (UR sig nD τ) ℕ (Pipeline.pin (pcfgs (F := F)) adm p) c
  | ⟨0, _⟩ => fun c => Estep.dat (V1 m) c
  | ⟨1, _⟩ => fun c => Sort.dat (V2 m) c
  | ⟨2, _⟩ => fun c => Zout.dat (V3 m) c
abbrev 𝒱₀ : Variants := Variants.none
abbrev L : GSem nD τ sig → Finset Unit := fun _ => ∅
abbrev lv : GSem nD τ sig → Unit → ℕ := fun _ _ => 0
/-- What rides along: the generator register, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A reference that is not scoped is among the unscoped ones. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread state at the return. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state, from the contents `W1` to `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Estep.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (Estep.A_eq (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Estep.hin (V1 m) c); unfold Pipeline.ΦA
    iintro ⟨Hp, -, Hr⟩
    isplitl [Hr]; · iexact Hr
    iexact Hp
  hout c := by
    rw [Pipeline.ownSems0_none]
    refine BIBase.Entails.trans (Estep.hout (V1 m) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state, from the contents `W2` to `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Sort.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (Sort.A_eq (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state, from the contents `W3` to `W4`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Zout.body_obligation (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) (Zout.A_eq (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) adm (pdats m) () defs₀ 𝒱₀ L lv) :=
  [ .host (hseg hostOps0 hostOps0_sub fresh0 (W0 m)),
    .region (reg0 m),
    .region (reg1 m),
    .region (reg2 m),
    .host (hseg hostOps3 hostOps3_sub fresh3 (W4 m)) ]
/-- The program is the run of its segments. -/
theorem main_run (c : Dev nD) : main (F := F) c = Pipeline.Seg.run (segs m) := (main_chain c).trans (by chain_rfl)

/-- The TensorCore has no unscoped semaphore. -/
theorem no_unscoped : ∀ sm : SemLoc sig, sm.isScoped .tc = true := by decide

set_option backward.isDefEq.respectTransparency.types false in
/-- Every run ends with each of the four results and the three arguments at the last boundary's contents, and every counter
    at zero. -/
theorem run : θ_run defs (onTc (τ := τ) (main (F := F))) ⟨m, fun _ => 0, ρ⟩ (fun r => (∀ c : Dev nD,
      r.2.mem ((c.tc : Thread nD τ).loc main_v7) = W5 m c (Proc.devRef .tc main_v7)
      ∧ r.2.mem ((c.tc : Thread nD τ).loc main_v6) = W5 m c (Proc.devRef .tc main_v6)
      ∧ r.2.mem ((c.tc : Thread nD τ).loc main_v5_4) = W5 m c (Proc.devRef .tc main_v5_4)
      ∧ r.2.mem ((c.tc : Thread nD τ).loc main_v8) = W5 m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      refine BIBase.Entails.trans (show _ ⊢ iprop(StableHlo.held (c : Thread nD τ) (Pipeline.ucRefs τ sig) (W5 m c) ∗ R c) from .rfl) ?_
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨(fun c =>
      ⟨h c _ (mem_uc main_v7 (by decide)), h c _ (mem_uc main_v6 (by decide)), h c _ (mem_uc main_v5_4 (by decide)),
       h c _ (mem_uc main_v8 (by decide)),
       (h c _ (mem_uc main_arg0 (by decide))).trans (W5_args m c main_arg0 (by decide)),
       (h c _ (mem_uc main_arg1 (by decide))).trans (W5_args m c main_arg1 (by decide)),
       (h c _ (mem_uc main_arg2 (by decide))).trans (W5_args m c main_arg2 (by decide))⟩),
      funext fun g => hz g (.inr (no_unscoped g.2))⟩)

end Cert.KernelIdeal.Run

end
-- ==== Proof.Spec.lean ====
/-
  The mathematics both programs compute, on the extended reals: the log densities, the log likelihoods, the
  responsibilities and their totals; and the equation between the two ways to write a kept responsibility.
-/
module

public import Idealize.ShloMosaic.PureOps.Ideal.Laws
public import Idealize.ShloMosaic.Lib.Pointwise

@[expose] public section

noncomputable section

namespace Cert.Spec

open Idealize.ShloMosaic

/-- The constant one half. -/
abbrev half : EReal := Ideal.ofBits .f32 1056964608#32
/-- The constant two. -/
abbrev two : EReal := Ideal.ofBits .f32 1073741824#32
/-- Half the dimension times the logarithm of two pi, as both programs fold it. -/
abbrev c0 : EReal := Ideal.ofBits .f32 1131102095#32
/-- The small constant added to a denominator. -/
abbrev eps : EReal := Ideal.ofBits .f32 841731191#32
/-- Minus infinity as both programs write it. -/
abbrev ninf : EReal := Ideal.ofBits .f32 4286578688#32

section

variable (X : Fin 16384 → Fin 256 → EReal) (M : Fin 1024 → Fin 256 → EReal) (LP : Fin 1024 → EReal)

/-- The joint log density of row `n` and component `k`. -/
def lg (n : Fin 16384) (k : Fin 1024) : EReal :=
  LP k - half * (∑ d, X n d * X n d - two * ∑ d, X n d * M k d + ∑ d, M k d * M k d) - c0

/-- The largest log density of row `n`. -/
def mx (n : Fin 16384) : EReal := Finset.univ.fold max ninf (fun k => lg X M LP n k)

/-- The exponentials' sum of row `n`, the largest taken off first. -/
def se (n : Fin 16384) : EReal := ∑ k, Ideal.exp (lg X M LP n k - mx X M LP n)

/-- The log likelihood of row `n`. -/
def ll (n : Fin 16384) : EReal := mx X M LP n + Ideal.log (se X M LP n)

/-- The responsibility of component `k` for row `n`. -/
def zr (n : Fin 16384) (k : Fin 1024) : EReal :=
  Ideal.div (Ideal.exp (lg X M LP n k - mx X M LP n)) (se X M LP n)

/-- The total responsibility of component `k`. -/
def zs (k : Fin 1024) : EReal := ∑ n, zr X M LP n k

/-- The responsibility-weighted sum of the rows, for component `k`. -/
def sx (k : Fin 1024) (d : Fin 256) : EReal := ∑ n, zr X M LP n k * X n d

end

/-- One where the sorted total `v` is more than two, else zero. -/
def keep (v : EReal) : EReal := if two < v then 1 else 0

/-- An extended real that is a real number. -/
def IsReal (e : EReal) : Prop := ∃ r : ℝ, e = (r : EReal)

/-- The literal of minus infinity is minus infinity. -/
theorem ninf_eq : ninf = ⊥ := by simp [ninf, Ideal.ofBits, Ideal.ieee]

variable {X : Fin 16384 → Fin 256 → EReal} {M : Fin 1024 → Fin 256 → EReal} {LP : Fin 1024 → EReal}

/-- The largest entry is one of the entries, or minus infinity. -/
theorem fold_max_mem {ι : Type} (s : Finset ι) (f : ι → EReal) :
    s.fold max ninf f = ⊥ ∨ ∃ k ∈ s, s.fold max ninf f = f k := by
  classical
  induction s using Finset.induction_on with
  | empty => exact Or.inl (by simp only [Finset.fold_empty]; exact ninf_eq)
  | insert a s ha ih =>
    rw [Finset.fold_insert ha]
    rcases max_choice (f a) (s.fold max ninf f) with h | h
    · exact Or.inr ⟨a, Finset.mem_insert_self _ _, h⟩
    · rw [h]
      rcases ih with g | ⟨k, hk, g⟩
      · exact Or.inl g
      · exact Or.inr ⟨k, Finset.mem_insert_of_mem hk, g⟩

/-- Every entry is at most the largest. -/
theorem le_fold_max {ι : Type} (s : Finset ι) (f : ι → EReal) (k : ι) (hk : k ∈ s) : f k ≤ s.fold max ninf f :=
  (Finset.le_fold_max _).mpr (Or.inr ⟨k, hk, le_refl _⟩)

/-- A real row maximum: the exponentials' sum is a positive real. -/
theorem se_real (n : Fin 16384) (m : ℝ) (hm : mx X M LP n = (m : EReal)) :
    (∀ k, lg X M LP n k = ⊥ ∨ IsReal (lg X M LP n k)) ∧ ∃ s : ℝ, 0 < s ∧ se X M LP n = (s : EReal) := by
  have hle : ∀ k, lg X M LP n k ≤ (m : EReal) := fun k => hm ▸ le_fold_max _ _ k (Finset.mem_univ k)
  have hc : ∀ k, lg X M LP n k = ⊥ ∨ IsReal (lg X M LP n k) := by
    intro k
    have h := hle k
    induction hq : lg X M LP n k using EReal.rec with
    | bot => exact Or.inl rfl
    | coe r => exact Or.inr ⟨r, rfl⟩
    | top => rw [hq, top_le_iff] at h; exact absurd h (EReal.coe_ne_top m)
  have hex : ∀ k, ∃ t : ℝ, 0 ≤ t ∧ Ideal.exp (lg X M LP n k - mx X M LP n) = (t : EReal) := by
    intro k
    rw [hm]
    rcases hc k with h | ⟨r, h⟩
    · exact ⟨0, le_refl _, by rw [h, EReal.bot_sub]; rfl⟩
    · exact ⟨Real.exp (r - m), (Real.exp_pos _).le, by rw [h, ← EReal.coe_sub]; rfl⟩
  choose t ht he using hex
  refine ⟨hc, ∑ k, t k, ?_, ?_⟩
  · rcases fold_max_mem Finset.univ (fun k => lg X M LP n k) with h | ⟨k, _, h⟩
    · exact absurd (hm.symm.trans h) (EReal.coe_ne_bot m)
    · refine Finset.sum_pos' (fun k _ => ht k) ⟨k, Finset.mem_univ k, ?_⟩
      have h1 : lg X M LP n k = (m : EReal) := h.symm.trans hm
      have h2 := he k
      rw [h1, hm, ← EReal.coe_sub, sub_self] at h2
      have h3 : t k = Real.exp 0 := (EReal.coe_eq_coe_iff.mp h2).symm
      rw [h3]; exact Real.exp_pos 0
  · unfold se
    rw [Finset.sum_congr rfl fun k _ => he k]
    exact (map_sum (⟨⟨((↑) : ℝ → EReal), EReal.coe_zero⟩, EReal.coe_add⟩ : ℝ →+ EReal) t Finset.univ).symm

/-- With a real row maximum the exponential of the log density less the log likelihood is the responsibility. -/
theorem exp_sub_ll (n : Fin 16384) (m : ℝ) (hm : mx X M LP n = (m : EReal)) (k : Fin 1024) :
    Ideal.exp (lg X M LP n k - ll X M LP n) = zr X M LP n k := by
  obtain ⟨hc, s, hs, hse⟩ := se_real n m hm
  have hlog : Ideal.log (se X M LP n) = (Real.log s : EReal) := by
    rw [hse]; show (if s ≤ 0 then (⊥ : EReal) else (Real.log s : EReal)) = _
    rw [if_neg (not_le.mpr hs)]
  have hdiv : ∀ e : ℝ, Ideal.div (e : EReal) (s : EReal) = ((e / s : ℝ) : EReal) := by
    intro e
    unfold Ideal.div
    rw [if_neg (fun h => hs.ne' (EReal.coe_eq_coe_iff.mp (h.trans EReal.coe_zero.symm))), ← EReal.coe_inv,
      ← EReal.coe_mul, div_eq_mul_inv]
  unfold ll zr
  rw [hlog, hse, hm, ← EReal.coe_add]
  rcases hc k with h | ⟨r, h⟩
  · rw [h, EReal.bot_sub, EReal.bot_sub]
    have h0 : Ideal.exp ⊥ = ((0 : ℝ) : EReal) := rfl
    rw [h0, hdiv, zero_div]
  · rw [h, ← EReal.coe_sub, ← EReal.coe_sub]
    have h0 : ∀ q : ℝ, Ideal.exp (q : EReal) = (Real.exp q : EReal) := fun _ => rfl
    rw [h0, h0, hdiv, ← sub_sub, Real.exp_sub (r - m), Real.exp_log hs]

/-- Either every row's maximum is real, or every total responsibility is minus infinity. -/
theorem real_or_bot :
    (∀ n, IsReal (mx X M LP n)) ∨ ∀ k, zs X M LP k = ⊥ := by
  have key : ∀ n : Fin 16384, (∀ k, lg X M LP n k - mx X M LP n = ⊥) → ∀ k, zs X M LP k = ⊥ := by
    intro n h k
    have h0 : se X M LP n = 0 := by
      unfold se
      rw [Finset.sum_congr rfl fun k _ => by rw [h k]]
      exact Finset.sum_const_zero
    have h1 : zr X M LP n k = ⊥ := by
      unfold zr
      rw [h k, h0]
      show Ideal.div 0 0 = ⊥
      unfold Ideal.div
      rw [if_pos rfl, if_neg (lt_irrefl _)]
    unfold zs
    rw [← Finset.add_sum_erase _ _ (Finset.mem_univ n), h1, EReal.bot_add]
  by_cases hreal : ∀ n, IsReal (mx X M LP n)
  · exact Or.inl hreal
  right
  push Not at hreal
  obtain ⟨n, hn⟩ := hreal
  refine key n fun k => ?_
  induction hq : mx X M LP n using EReal.rec with
  | bot =>
    have h : lg X M LP n k ≤ ⊥ := hq ▸ le_fold_max _ (fun k => lg X M LP n k) k (Finset.mem_univ k)
    rw [le_bot_iff.mp h]
    rfl
  | coe r => exact absurd ⟨r, hq⟩ hn
  | top => rw [EReal.sub_top]

/-- Wherever the total responsibility is kept the exponential of the log density less the log likelihood is the responsibility; elsewhere both products are zero. -/
theorem exp_mul_keep (n : Fin 16384) (k : Fin 1024) :
    Ideal.exp (lg X M LP n k - ll X M LP n) * keep (zs X M LP k) = zr X M LP n k * keep (zs X M LP k) := by
  rcases real_or_bot (X := X) (M := M) (LP := LP) with h | h
  · obtain ⟨m, hm⟩ := h n
    rw [exp_sub_ll n m hm]
  · rw [h k]
    have : keep ⊥ = 0 := if_neg not_lt_bot
    rw [this, mul_zero, mul_zero]

/-- `keep` moves out of the sum of the kept responsibilities. -/
theorem sum_mul_keep {ι : Type} (s : Finset ι) (f : ι → EReal) (v : EReal) :
    (∑ i ∈ s, f i * keep v) = (∑ i ∈ s, f i) * keep v := by
  unfold keep
  split
  · simp only [mul_one]
  · simp only [mul_zero, Finset.sum_const_zero]

/-- `keep` moves out of the sum of the kept responsibilities' products with another factor. -/
theorem sum_mul_keep_mul {ι : Type} (s : Finset ι) (f g : ι → EReal) (v : EReal) :
    (∑ i ∈ s, f i * keep v * g i) = (∑ i ∈ s, f i * g i) * keep v := by
  unfold keep
  split
  · simp only [mul_one]
  · simp only [mul_zero, zero_mul, Finset.sum_const_zero]

end Cert.Spec

end
-- ==== Proof.Rank.lean ====
/-
  The ranks that the kernel counts, against the order of a stable sort read backwards.
-/
module

public import Idealize.ShloMosaic.Lib.SortFacts
public import Mathlib.Data.Fintype.Card
public import Mathlib.Order.Interval.Finset.Fin

@[expose] public section

noncomputable section

namespace Cert.Rank

open Idealize.ShloMosaic

variable {α : Type} [LinearOrder α] {n : Nat}

/-- Position `a` comes before position `b` in the ascending stable order of the table `v`: its entry is less, or equal
    and at a smaller position. -/
def Before (v : Fin n → α) (a b : Fin n) : Prop := v a < v b ∨ (v a = v b ∧ a < b)

/-- `Before` is transitive. -/
theorem Before.trans {v : Fin n → α} {a b c : Fin n} (h : Before v a b) (h' : Before v b c) : Before v a c := by
  rcases h with h | ⟨h, g⟩ <;> rcases h' with h' | ⟨h', g'⟩
  · exact Or.inl (h.trans h')
  · exact Or.inl (h'.symm ▸ h)
  · exact Or.inl (h ▸ h')
  · exact Or.inr ⟨h.trans h', g.trans g'⟩

/-- No position comes before itself. -/
theorem Before.irrefl {v : Fin n → α} {a : Fin n} : ¬ Before v a a := by
  rintro (h | ⟨_, h⟩) <;> exact lt_irrefl _ h

/-- Of two different positions one comes before the other. -/
theorem Before.total {v : Fin n → α} {a b : Fin n} (h : a ≠ b) : Before v a b ∨ Before v b a := by
  rcases lt_trichotomy (v a) (v b) with g | g | g
  · exact Or.inl (Or.inl g)
  · rcases lt_or_gt_of_ne h with k | k
    · exact Or.inl (Or.inr ⟨g, k⟩)
    · exact Or.inr (Or.inr ⟨g.symm, k⟩)
  · exact Or.inr (Or.inl g)

/-- Inserting a position smaller than all of a `Before`-ordered list, by the entries alone, keeps the list ordered. -/
theorem insert_ordered (v : Fin n → α) (R : Fin n → Fin n → Bool) (hR : ∀ a b, R a b = true ↔ v a < v b) (a : Fin n) :
    ∀ l : List (Fin n), (∀ b ∈ l, a < b) → l.Pairwise (Before v) → (insertBefore R a l).Pairwise (Before v)
  | [], _, _ => List.pairwise_singleton _ _
  | b :: l, hb, hl => by
    unfold insertBefore
    rw [List.pairwise_cons] at hl
    split
    · rename_i h
      refine List.pairwise_cons.mpr ⟨fun c hc => ?_,
        insert_ordered v R hR a l (fun c hc => hb c (List.mem_cons_of_mem _ hc)) hl.2⟩
      rcases List.mem_cons.mp ((perm_insertBefore R a l).mem_iff.mp hc) with rfl | hc'
      · exact Or.inl ((hR _ _).mp h)
      · exact hl.1 c hc'
    · rename_i h
      have hab : Before v a b := by
        rcases lt_or_eq_of_le (le_of_not_gt fun g => h ((hR _ _).mpr g)) with g | g
        · exact Or.inl g
        · exact Or.inr ⟨g, hb b List.mem_cons_self⟩
      refine List.pairwise_cons.mpr ⟨fun c hc => ?_, List.pairwise_cons.mpr hl⟩
      rcases List.mem_cons.mp hc with rfl | hc'
      · exact hab
      · exact hab.trans (hl.1 c hc')

/-- The stable sort by the entries of an increasing list of positions is ordered by `Before`. -/
theorem stableSort_ordered (v : Fin n → α) (R : Fin n → Fin n → Bool) (hR : ∀ a b, R a b = true ↔ v a < v b) :
    ∀ l : List (Fin n), l.Pairwise (· < ·) → (stableSort R l).Pairwise (Before v)
  | [], _ => List.Pairwise.nil
  | a :: l, hl => by
    rw [List.pairwise_cons] at hl
    exact insert_ordered v R hR a _ (fun b hb => hl.1 b ((perm_stableSort R l).mem_iff.mp hb))
      (stableSort_ordered v R hR l hl.2)

/-- The source of a smaller sorted position comes before the source of a larger one. -/
theorem sortedFrom_before (v : Fin n → α) (R : Fin n → Fin n → Bool) (hR : ∀ a b, R a b = true ↔ v a < v b)
    {i j : Fin n} (h : i < j) : Before v (sortedFrom R i) (sortedFrom R j) :=
  List.pairwise_iff_get.mp (stableSort_ordered v R hR (List.finRange n) (List.pairwise_lt_finRange n)) _ _ h

/-- … and only then. -/
theorem sortedFrom_before_iff (v : Fin n → α) (R : Fin n → Fin n → Bool) (hR : ∀ a b, R a b = true ↔ v a < v b)
    (i j : Fin n) : Before v (sortedFrom R i) (sortedFrom R j) ↔ i < j := by
  refine ⟨fun h => ?_, sortedFrom_before v R hR⟩
  rcases lt_trichotomy i j with g | g | g
  · exact g
  · subst g; exact absurd h Before.irrefl
  · exact absurd (h.trans (sortedFrom_before v R hR g)) Before.irrefl

/-- The number of positions that come after `k`: its place in the descending order. -/
def rank (v : Fin n → α) (k : Fin n) : Nat := by
  classical exact (Finset.univ.filter fun x => Before v k x).card

/-- The positions in descending order: the ascending stable sort read from its end. -/
def desc (R : Fin n → Fin n → Bool) (j : Fin n) : Fin n := sortedFrom R j.rev

/-- The position listed at `j` in descending order has exactly `j` positions after it in the ascending order. -/
theorem rank_desc (v : Fin n → α) (R : Fin n → Fin n → Bool) (hR : ∀ a b, R a b = true ↔ v a < v b) (j : Fin n) :
    rank v (desc R j) = j.val := by
  classical
  have h : (Finset.univ.filter fun x => Before v (desc R j) x) = (Finset.Ioi j.rev).image (sortedFrom R) := by
    ext x
    obtain ⟨i, rfl⟩ := sortedFrom_surjective R x
    rw [Finset.mem_filter, Finset.mem_image]
    constructor
    · exact fun h => ⟨i, Finset.mem_Ioi.mpr ((sortedFrom_before_iff v R hR _ _).mp h.2), rfl⟩
    · rintro ⟨i', h, e⟩
      refine ⟨Finset.mem_univ _, (sortedFrom_before_iff v R hR _ _).mpr ?_⟩
      exact sortedFrom_injective R e ▸ Finset.mem_Ioi.mp h
  have h' : rank v (desc R j) = (Finset.univ.filter fun x => Before v (desc R j) x).card := by
    unfold rank; congr
  rw [h', h, Finset.card_image_of_injective _ (sortedFrom_injective R), Fin.card_Ioi, Fin.val_rev]
  omega

/-- A position has rank `j` exactly when it is the one listed at `j`. -/
theorem rank_eq_iff (v : Fin n → α) (R : Fin n → Fin n → Bool) (hR : ∀ a b, R a b = true ↔ v a < v b) (j k : Fin n) :
    j.val = rank v k ↔ k = desc R j := by
  constructor
  · intro h
    obtain ⟨i, rfl⟩ := sortedFrom_surjective R k
    have e : sortedFrom R i = desc R i.rev := by unfold desc; rw [Fin.rev_rev]
    rw [e, rank_desc v R hR] at h
    rw [e, Fin.ext h]
  · rintro rfl
    exact (rank_desc v R hR j).symm

end Cert.Rank

end
-- ==== Proof.Payload.lean ====
/-
  What each stored value of the first call's body is, entry by entry.
-/
module

public import proofs.«01_k».proof.Proof.Estep
public import proofs.«01_k».proof.Proof.Sort
public import proofs.«01_k».proof.Proof.Zout
public import proofs.«01_k».proof.Proof.Spec
public import proofs.«01_k».proof.Proof.Rank
public import Idealize.ShloMosaic.Lib.Pointwise

@[expose] public section

set_option maxRecDepth 16384

noncomputable section

namespace Cert.KernelIdeal.Payload

open Cert.KernelIdeal Cert.KernelIdeal.Gen
open Idealize.ShloMosaic

/-- The joint log density that the first kernel's body computes for one row of its block. -/
theorem pay2_at (v0 : Vec Ideal S256x256 .f32) (v1 : Vec Ideal S1024x256 .f32) (v12 v16 : Vec Ideal S1x1024 .f32) (r : Fin 256) (k : Fin 1024) :
    k0_pay2 v0 v1 v12 v16 (ix2 r k) = v16 (ix2 0 k) - Spec.half * (∑ d, v0 (ix2 r d) * v0 (ix2 r d)
      - Spec.two * ∑ d, v0 (ix2 r d) * v1 (ix2 k d) + v12 (ix2 0 k)) - Spec.c0 := by
  pointwise [k0_pay2]

/-- The row maximum. -/
theorem pay3_at (v0 : Vec Ideal S256x256 .f32) (v1 : Vec Ideal S1024x256 .f32) (v12 v16 : Vec Ideal S1x1024 .f32) (r : Fin 256) :
    k0_pay3 v0 v1 v12 v16 (ix2 r 0) = Finset.univ.fold max Spec.ninf fun k => k0_pay2 v0 v1 v12 v16 (ix2 r k) := by
  pointwise [k0_pay3]

/-- The exponential of a log density less the row maximum. -/
theorem pay4_at (v0 : Vec Ideal S256x256 .f32) (v1 : Vec Ideal S1024x256 .f32) (v12 v16 : Vec Ideal S1x1024 .f32) (r : Fin 256) (k : Fin 1024) :
    k0_pay4 v0 v1 v12 v16 (ix2 r k) = Ideal.exp (k0_pay2 v0 v1 v12 v16 (ix2 r k) - k0_pay3 v0 v1 v12 v16 (ix2 r 0)) := by
  pointwise [k0_pay4]

/-- Their sum over the row. -/
theorem pay5_at (v0 : Vec Ideal S256x256 .f32) (v1 : Vec Ideal S1024x256 .f32) (v12 v16 : Vec Ideal S1x1024 .f32) (r : Fin 256) :
    k0_pay5 v0 v1 v12 v16 (ix2 r 0) = ∑ k, k0_pay4 v0 v1 v12 v16 (ix2 r k) := by
  pointwise [k0_pay5]

/-- The log likelihood of the row. -/
theorem pay6_at (v0 : Vec Ideal S256x256 .f32) (v1 : Vec Ideal S1024x256 .f32) (v12 v16 : Vec Ideal S1x1024 .f32) (r : Fin 256) :
    k0_pay6 v0 v1 v12 v16 (ix2 r 0) = k0_pay3 v0 v1 v12 v16 (ix2 r 0) + Ideal.log (k0_pay5 v0 v1 v12 v16 (ix2 r 0)) := by
  pointwise [k0_pay6]

/-- The responsibility. -/
theorem pay7_at (v0 : Vec Ideal S256x256 .f32) (v1 : Vec Ideal S1024x256 .f32) (v12 v16 : Vec Ideal S1x1024 .f32) (r : Fin 256) (k : Fin 1024) :
    k0_pay7 v0 v1 v12 v16 (ix2 r k) = Ideal.div (k0_pay4 v0 v1 v12 v16 (ix2 r k)) (k0_pay5 v0 v1 v12 v16 (ix2 r 0)) := by
  pointwise [k0_pay7]

/-- The running sums of products of responsibilities and rows, one block added. -/
theorem sNext_at (v0 : Vec Ideal S256x256 .f32) (z : Vec Ideal S256x1024 .f32) (b : Vec Ideal S1024x256 .f32) (k : Fin 1024) (d : Fin 256) :
    k0_pay1 v0 z b (ix2 k d) = b (ix2 k d) + ∑ x, z (ix2 x k) * v0 (ix2 x d) := by
  pointwise [k0_pay1]

/-- The running totals with the eight partial sums of a chunk added. -/
theorem zsNext_at (a : Vec Ideal S8x1024 .f32) (b : Vec Ideal S1x1024 .f32) (k : Fin 1024) :
    k0_pay13 a b (ix2 0 k) = b (ix2 0 k) + (a (ix2 0 k) + a (ix2 4 k) + (a (ix2 2 k) + a (ix2 6 k)) + (a (ix2 1 k) + a (ix2 5 k) + (a (ix2 3 k) + a (ix2 7 k)))) := by
  pointwise [k0_pay13]

/-- The eight partial sums of a block: each is the one before with the block's rows of that residue added. -/
theorem accNext_at (z : Vec Ideal S256x1024 .f32) (a : Vec Ideal S8x1024 .f32) (i : Fin 8) (k : Fin 1024) :
    k0_pay12 z (k0_pay11 z a) (ix2 i k) = a (ix2 i k) + ∑ j : Fin 32, z (ix2 ⟨8 * j.val + i.val, by omega⟩ k) := by
  pointwise [k0_pay12, k0_pay11]
  generalize hf : (fun n : ℕ => if h : n < 256 then z (ix2 ⟨n, h⟩ k) else 0) = f
  have e : ∀ (n : ℕ) (h : n < 256), z (ix2 ⟨n, h⟩ k) = f n := fun n h => by rw [← hf]; simp only [dif_pos h]
  simp only [e]
  rw [Fin.sum_univ_eq_sum_range (fun j => f (8 * j + i.val)) 32]
  simp only [Finset.sum_range_succ, Finset.sum_range_zero, zero_add, add_assoc, Nat.reduceMul]

end Cert.KernelIdeal.Payload

end
-- ==== Proof.Arrays.lean ====
/-
  What the three calls' arrays hold: the blocks of each window, read entry by entry.
-/
module

public import proofs.«01_k».proof.Proof.Run
public import Idealize.ShloMosaic.Lib.Pointwise
public import Idealize.ShloMosaic.Lib.Pipeline.ValueKit

@[expose] public section

set_option maxRecDepth 16384

noncomputable section

namespace Cert.KernelIdeal.Arrays

open Cert.KernelIdeal Cert.KernelIdeal.Gen
open Idealize.ShloMosaic Idealize.ShloMosaic.TcCoe Idealize.ShloMosaic.StableHlo Idealize.SL.Sem
open Idealize.ShloMosaic.Pipeline (Dat)

variable {F : FTy → Type} [FloatOps F]
variable (V : (c : Dev nD) → (b : Ref sig .tc) → Buf (Elt F) ((c : Thread nD τ).loc b))

/-- Row `r` of block `t` of the rows. -/
def row (t : Fin 64) (r : Fin 256) : Fin 16384 := ⟨256 * t.val + r.val, by omega⟩

/-- Region 0 has a point 63. -/
theorem last0 : 63 < cfg0.N := by rw [show cfg0.N = 64 from N_0]; decide

/-- Where region 0's windows sit at grid point `t`. -/
theorem idx0 : ∀ t : Fin grid0.N, win0_0.index t = ![t.val, 0] ∧ win0_1.index t = ![0, 0] ∧ win0_2.index t = ![0, 0] ∧ win0_3.index t = ![0, 0] ∧ win0_4.index t = ![t.val, 0] ∧ win0_5.index t = ![0, 0] ∧ win0_6.index t = ![0, 0] := by decide +kernel

/-- Where region 1's windows sit at grid point `t`. -/
theorem idx1 : ∀ t : Fin grid1.N, win1_0.index t = ![0, 0] ∧ win1_1.index t = ![0, 0] ∧ win1_2.index t = ![0, 0] ∧ win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] ∧ win1_10.index t = ![0, 0] := by decide +kernel

/-- Where region 2's windows sit at grid point `t`. -/
theorem idx2 : ∀ t : Fin grid2.N, win2_0.index t = ![t.val, 0] ∧ win2_1.index t = ![0, 0] ∧ win2_2.index t = ![0, 0] ∧ win2_3.index t = ![0, 0] ∧ win2_4.index t = ![0, 0] ∧ win2_5.index t = ![t.val, 0] ∧ win2_6.index t = ![t.val, 0] := by decide +kernel

/-- Window 1 of region 0 holds its whole array. -/
theorem estep_in1 (c : Dev nD) (t : Fin cfg0.N) : Estep.iblk V c 1 t = V c main_arg1 := by
  funext y
  blk_ext [Estep.iblk, idx0 t]

/-- Window 2 of region 0 holds its whole array. -/
theorem estep_in2 (c : Dev nD) (t : Fin cfg0.N) : Estep.iblk V c 2 t = V c main_v0 := by
  funext y
  blk_ext [Estep.iblk, idx0 t]

/-- Window 3 of region 0 holds its whole array. -/
theorem estep_in3 (c : Dev nD) (t : Fin cfg0.N) : Estep.iblk V c 3 t = V c main_v3 := by
  funext y
  blk_ext [Estep.iblk, idx0 t]

/-- Window 0 of region 1 holds its whole array. -/
theorem sort_in0 (c : Dev nD) (t : Fin cfg1.N) : Sort.iblk V c 0 t = V c main_v4_1 := by
  funext y
  blk_ext [Sort.iblk, idx1 t]

/-- Window 1 of region 1 holds its whole array. -/
theorem sort_in1 (c : Dev nD) (t : Fin cfg1.N) : Sort.iblk V c 1 t = V c main_arg1 := by
  funext y
  blk_ext [Sort.iblk, idx1 t]

/-- Window 2 of region 1 holds its whole array. -/
theorem sort_in2 (c : Dev nD) (t : Fin cfg1.N) : Sort.iblk V c 2 t = V c main_v0 := by
  funext y
  blk_ext [Sort.iblk, idx1 t]

/-- Window 3 of region 1 holds its whole array. -/
theorem sort_in3 (c : Dev nD) (t : Fin cfg1.N) : Sort.iblk V c 3 t = V c main_v3 := by
  funext y
  blk_ext [Sort.iblk, idx1 t]

/-- Window 4 of region 1 holds its whole array. -/
theorem sort_in4 (c : Dev nD) (t : Fin cfg1.N) : Sort.iblk V c 4 t = V c main_v4_2 := by
  funext y
  blk_ext [Sort.iblk, idx1 t]

/-- Window 1 of region 2 holds its whole array. -/
theorem zout_in1 (c : Dev nD) (t : Fin cfg2.N) : Zout.iblk V c 1 t = V c main_v5_3 := by
  funext y
  blk_ext [Zout.iblk, idx2 t]

/-- Window 2 of region 2 holds its whole array. -/
theorem zout_in2 (c : Dev nD) (t : Fin cfg2.N) : Zout.iblk V c 2 t = V c main_v5_1 := by
  funext y
  blk_ext [Zout.iblk, idx2 t]

/-- Window 3 of region 2 holds its whole array. -/
theorem zout_in3 (c : Dev nD) (t : Fin cfg2.N) : Zout.iblk V c 3 t = V c main_v5_2 := by
  funext y
  blk_ext [Zout.iblk, idx2 t]

/-- Window 4 of region 2 holds its whole array. -/
theorem zout_in4 (c : Dev nD) (t : Fin cfg2.N) : Zout.iblk V c 4 t = V c main_v5_0 := by
  funext y
  blk_ext [Zout.iblk, idx2 t]

/-- Window 0 of region 0 holds its array's rows of block `t`. -/
theorem estep_in0 (c : Dev nD) (t : Fin cfg0.N) (r : Fin 256) (k : Fin 256) :
    Estep.iblk V c 0 t (ix2 r k) = V c main_arg0 (ix2 (row ⟨t.val, t.isLt.trans_eq N_0⟩ r) k) := by
  blk_ext [Estep.iblk, idx0 t, row]

/-- Window 0 of region 2 holds its array's rows of block `t`. -/
theorem zout_in0 (c : Dev nD) (t : Fin cfg2.N) (r : Fin 256) (k : Fin 256) :
    Zout.iblk V c 0 t (ix2 r k) = V c main_arg0 (ix2 (row ⟨t.val, t.isLt.trans_eq N_2⟩ r) k) := by
  blk_ext [Zout.iblk, idx2 t, row]

/-- Window 5 of region 2 holds its array's rows of block `t`. -/
theorem zout_in5 (c : Dev nD) (t : Fin cfg2.N) (r : Fin 256) :
    Zout.iblk V c 5 t (ix2 r 0) = V c main_v4_0 (ix2 (row ⟨t.val, t.isLt.trans_eq N_2⟩ r) 0) := by
  blk_ext [Zout.iblk, idx2 t, row]

/-- What region 1 leaves in its output array of window 5. -/
theorem sort_out5 (c : Dev nD) : (Sort.dat V c).arrAt 5 cfg1.N = Sort.maskOf (V c main_v4_1) := by
  refine (Sort.dat V c).arrAt_eq_of_covers 5 _ (by decide +kernel) fun t hf y => ?_
  blk_simp
  rw [Sort.after5, sort_in0]
  refine congrArg (Sort.maskOf (V c main_v4_1)) ?_
  blk_ext [idx1 t]

/-- What region 1 leaves in its output array of window 6. -/
theorem sort_out6 (c : Dev nD) : (Sort.dat V c).arrAt 6 cfg1.N = Sort.lpOf (V c main_v4_1) (V c main_v0) := by
  refine (Sort.dat V c).arrAt_eq_of_covers 6 _ (by decide +kernel) fun t hf y => ?_
  blk_simp
  rw [Sort.after6, sort_in0, sort_in2]
  refine congrArg (Sort.lpOf (V c main_v4_1) (V c main_v0)) ?_
  blk_ext [idx1 t]

/-- What region 1 leaves in its output array of window 7. -/
theorem sort_out7 (c : Dev nD) : (Sort.dat V c).arrAt 7 cfg1.N = Sort.muOf (V c main_v4_1) (V c main_v3) := by
  refine (Sort.dat V c).arrAt_eq_of_covers 7 _ (by decide +kernel) fun t hf y => ?_
  blk_simp
  rw [Sort.after7, sort_in0, sort_in3]
  refine congrArg (Sort.muOf (V c main_v4_1) (V c main_v3)) ?_
  blk_ext [idx1 t]

/-- What region 1 leaves in its output array of window 8. -/
theorem sort_out8 (c : Dev nD) : (Sort.dat V c).arrAt 8 cfg1.N = Sort.meansOf (V c main_v4_1) (V c main_arg1) := by
  refine (Sort.dat V c).arrAt_eq_of_covers 8 _ (by decide +kernel) fun t hf y => ?_
  blk_simp
  rw [Sort.after8, sort_in0, sort_in1]
  refine congrArg (Sort.meansOf (V c main_v4_1) (V c main_arg1)) ?_
  blk_ext [idx1 t]

/-- What region 1 leaves in its output array of window 9. -/
theorem sort_out9 (c : Dev nD) : (Sort.dat V c).arrAt 9 cfg1.N = Sort.newMeansOf (V c main_v4_1) (V c main_v4_2) := by
  refine (Sort.dat V c).arrAt_eq_of_covers 9 _ (by decide +kernel) fun t hf y => ?_
  blk_simp
  rw [Sort.after9, sort_in0, sort_in4]
  refine congrArg (Sort.newMeansOf (V c main_v4_1) (V c main_v4_2)) ?_
  blk_ext [idx1 t]

/-- What region 1 leaves in its output array of window 10. -/
theorem sort_out10 (c : Dev nD) : (Sort.dat V c).arrAt 10 cfg1.N = Sort.newPiOf (V c main_v4_1) := by
  refine (Sort.dat V c).arrAt_eq_of_covers 10 _ (by decide +kernel) fun t hf y => ?_
  blk_simp
  rw [Sort.after10, sort_in0]
  refine congrArg (Sort.newPiOf (V c main_v4_1)) ?_
  blk_ext [idx1 t]

/-- What region 0 leaves in its output array of window 5: the value after the last point. -/
theorem estep_out5 (c : Dev nD) : (Estep.dat V c).arrAt 5 cfg0.N = Estep.zsAt V c 63 last0 := by
  refine (Estep.dat V c).arrAt_eq_of_covers 5 _ (by decide +kernel) fun t hf y => ?_
  have ht : t.val = 63 := by
    have h := (flush0_5 t).mp hf
    have h' : t.val < 64 := t.isLt.trans_eq N_0
    omega
  have e : ∀ n (h : n < cfg0.N), n = 63 → Estep.zsAt V c n h = Estep.zsAt V c 63 last0 := fun n h g => by subst g; rfl
  blk_simp
  rw [Estep.after5, e t.val t.isLt ht]
  refine congrArg (Estep.zsAt V c 63 _) ?_
  blk_ext [idx0 t]

/-- What region 0 leaves in its output array of window 6: the value after the last point. -/
theorem estep_out6 (c : Dev nD) : (Estep.dat V c).arrAt 6 cfg0.N = Estep.sAt V c 63 last0 := by
  refine (Estep.dat V c).arrAt_eq_of_covers 6 _ (by decide +kernel) fun t hf y => ?_
  have ht : t.val = 63 := by
    have h := (flush0_6 t).mp hf
    have h' : t.val < 64 := t.isLt.trans_eq N_0
    omega
  have e : ∀ n (h : n < cfg0.N), n = 63 → Estep.sAt V c n h = Estep.sAt V c 63 last0 := fun n h g => by subst g; rfl
  blk_simp
  rw [Estep.after6, e t.val t.isLt ht]
  refine congrArg (Estep.sAt V c 63 _) ?_
  blk_ext [idx0 t]

/-- What region 0 leaves in the log likelihoods' array: any table whose every block of rows is what its point computes. -/
theorem estep_out4 (c : Dev nD) (G : Buf (Elt F) ((c : Thread nD τ).loc main_v4_0))
    (h : ∀ (t : Fin cfg0.N) (r : Fin 256), Estep.lAt V c t (ix2 r 0) = G (ix2 (row ⟨t.val, t.isLt.trans_eq N_0⟩ r) 0)) :
    (Estep.dat V c).arrAt 4 cfg0.N = G := by
  refine (Estep.dat V c).arrAt_eq_of_covers 4 _ (by decide +kernel) fun t hf y => ?_
  blk_simp
  rw [Estep.after4]
  idx_vars y
  obtain rfl : y1 = 0 := Subsingleton.elim _ _
  rw [h]
  blk_ext [idx0 t, row]

/-- What region 2 leaves in its output array: any table whose every block of rows is what its point computes. -/
theorem zout_out6 (c : Dev nD) (G : Buf (Elt F) ((c : Thread nD τ).loc main_v6))
    (h : ∀ (t : Fin cfg2.N) (r : Fin 256) (k : Fin 1024),
      Zout.zOut (Zout.iblk V c 0 t) (V c main_v5_3) (V c main_v5_1) (V c main_v5_2) (V c main_v5_0) (Zout.iblk V c 5 t) (ix2 r k)
        = G (ix2 (row ⟨t.val, t.isLt.trans_eq N_2⟩ r) k)) :
    (Zout.dat V c).arrAt 6 cfg2.N = G := by
  refine (Zout.dat V c).arrAt_eq_of_covers 6 _ (by decide +kernel) fun t hf y => ?_
  blk_simp
  rw [Zout.after6, zout_in1, zout_in2, zout_in3, zout_in4]
  idx_vars y
  rw [h]
  blk_ext [idx2 t, row]

end Cert.KernelIdeal.Arrays

end
-- ==== Proof.EstepValue.lean ====
/-
  What the expectation step leaves: the log likelihoods, and the totals and weighted sums, accumulated over the grid in
  the kernel's order, as sums over all rows.
-/
module

public import proofs.«01_k».proof.Proof.Payload
public import proofs.«01_k».proof.Proof.Arrays

@[expose] public section

set_option maxRecDepth 16384

noncomputable section

namespace Cert.KernelIdeal.EstepValue

open Cert.KernelIdeal Cert.KernelIdeal.Gen Cert.KernelIdeal.Arrays
open Idealize.ShloMosaic Idealize.ShloMosaic.TcCoe Idealize.SL.Sem

/-- A table on the rows, extended by zero to all numbers. -/
def ext (f : Fin 16384 → EReal) (n : ℕ) : EReal := if h : n < 16384 then f ⟨n, h⟩ else 0

/-- The sum over the rows is the sum of the extended table. -/
theorem sum_ext (f : Fin 16384 → EReal) : ∑ n, f n = ∑ x ∈ Finset.range (256 * 64), ext f x := by
  rw [show 256 * 64 = 16384 from rfl, ← Fin.sum_univ_eq_sum_range]
  exact Finset.sum_congr rfl fun n _ => by unfold ext; rw [dif_pos n.isLt]

/-- A block's sum is the extended table's sum over the block's numbers. -/
theorem sum_block (f : Fin 16384 → EReal) (t : Fin 64) :
    ∑ r, f (row t r) = ∑ x ∈ Finset.range 256, ext f (256 * t.val + x) := by
  rw [← Fin.sum_univ_eq_sum_range]
  refine Finset.sum_congr rfl fun r _ => ?_
  unfold ext
  rw [dif_pos (by omega)]
  rfl

/-- One more block of the extended table. -/
theorem sum_succ (f : Fin 16384 → EReal) (n : ℕ) :
    ∑ x ∈ Finset.range (256 * (n + 1)), ext f x
      = ∑ x ∈ Finset.range (256 * n), ext f x + ∑ x ∈ Finset.range 256, ext f (256 * n + x) := by
  rw [Nat.mul_succ, Finset.sum_range_add]

/-- The eight partial sums of a chunk together. -/
def total (a : Vec Ideal S8x1024 .f32) (k : Fin 1024) : EReal := ∑ i : Fin 8, a (ix2 i k)

/-- Sums by residue modulo eight, added up, are the whole sum. -/
theorem sum_residues (g : ℕ → EReal) (m : ℕ) :
    ∑ j ∈ Finset.range m, ∑ i ∈ Finset.range 8, g (8 * j + i) = ∑ x ∈ Finset.range (8 * m), g x := by
  induction m with
  | zero => simp
  | succ m ih => rw [Finset.sum_range_succ, ih, Nat.mul_succ, Finset.sum_range_add]

/-- Adding a block to the eight partial sums adds the block's column sum to their total. -/
theorem total_next (z : Vec Ideal S256x1024 .f32) (a : Vec Ideal S8x1024 .f32) (k : Fin 1024) :
    total (Estep.accNext z a) k = total a k + ∑ r : Fin 256, z (ix2 r k) := by
  unfold total Estep.accNext
  simp only [Payload.accNext_at]
  rw [Finset.sum_add_distrib]
  refine congrArg (_ + ·) ?_
  generalize hf : (fun n : ℕ => if h : n < 256 then (z (ix2 ⟨n, h⟩ k) : EReal) else 0) = f
  have e : ∀ (n : ℕ) (h : n < 256), z (ix2 ⟨n, h⟩ k) = f n := fun n h => by rw [← hf]; simp only [dif_pos h]
  have e' : ∀ r : Fin 256, z (ix2 r k) = f r.val := fun r => e r.val r.isLt
  simp only [e']
  rw [Finset.sum_comm, Fin.sum_univ_eq_sum_range f 256, ← sum_residues f 32,
    ← Fin.sum_univ_eq_sum_range (fun j => ∑ i ∈ Finset.range 8, f (8 * j + i)) 32]
  refine Finset.sum_congr rfl fun j _ => ?_
  rw [← Fin.sum_univ_eq_sum_range (fun i => f (8 * j.val + i)) 8]

/-- The zero partial sums total zero. -/
theorem total_zero (k : Fin 1024) : total (k0_pay10 (F := Ideal)) k = 0 := by
  unfold total
  refine Finset.sum_eq_zero fun i _ => ?_
  pointwise [k0_pay10]

/-- Folding the partial sums adds their total. -/
theorem zsNext_total (a : Vec Ideal S8x1024 .f32) (b : Vec Ideal S1x1024 .f32) (k : Fin 1024) :
    Estep.zsNext a b (ix2 0 k) = b (ix2 0 k) + total a k := by
  unfold Estep.zsNext total
  rw [Payload.zsNext_at, Fin.sum_univ_eight]
  generalize b (ix2 0 k) = u
  generalize a (ix2 0 k) = a0
  generalize a (ix2 1 k) = a1
  generalize a (ix2 2 k) = a2
  generalize a (ix2 3 k) = a3
  generalize a (ix2 4 k) = a4
  generalize a (ix2 5 k) = a5
  generalize a (ix2 6 k) = a6
  generalize a (ix2 7 k) = a7
  abel

section

variable (V : (c : Dev nD) → (b : Ref sig .tc) → Buf (Elt Ideal) ((c : Thread nD τ).loc b)) (c : Dev nD)

/-- The rows as the region finds them. -/
def X (n : Fin 16384) (d : Fin 256) : EReal := V c main_arg0 (ix2 n d)
/-- The means as the region finds them. -/
def M (k : Fin 1024) (d : Fin 256) : EReal := V c main_arg1 (ix2 k d)
/-- The log weights as the region finds them. -/
def LP (k : Fin 1024) : EReal := V c main_v0 (ix2 0 k)

variable (hmu : ∀ k, V c main_v3 (ix2 0 k) = ∑ d, M V c k d * M V c k d)
include hmu

/-- A point's log densities. -/
theorem lg_at (t : Fin cfg0.N) (r : Fin 256) (k : Fin 1024) :
    k0_pay2 (Estep.iblk V c 0 t) (V c main_arg1) (V c main_v3) (V c main_v0) (ix2 r k)
      = Spec.lg (X V c) (M V c) (LP V c) (row ⟨t.val, t.isLt.trans_eq N_0⟩ r) k := by
  rw [Payload.pay2_at, hmu]
  simp only [estep_in0]
  rfl

/-- A point's row maxima. -/
theorem mx_at (t : Fin cfg0.N) (r : Fin 256) :
    k0_pay3 (Estep.iblk V c 0 t) (V c main_arg1) (V c main_v3) (V c main_v0) (ix2 r 0)
      = Spec.mx (X V c) (M V c) (LP V c) (row ⟨t.val, t.isLt.trans_eq N_0⟩ r) := by
  rw [Payload.pay3_at]
  simp only [lg_at V c hmu]
  rfl

/-- A point's exponentials. -/
theorem ex_at (t : Fin cfg0.N) (r : Fin 256) (k : Fin 1024) :
    k0_pay4 (Estep.iblk V c 0 t) (V c main_arg1) (V c main_v3) (V c main_v0) (ix2 r k)
      = Ideal.exp (Spec.lg (X V c) (M V c) (LP V c) (row ⟨t.val, t.isLt.trans_eq N_0⟩ r) k
        - Spec.mx (X V c) (M V c) (LP V c) (row ⟨t.val, t.isLt.trans_eq N_0⟩ r)) := by
  rw [Payload.pay4_at, lg_at V c hmu, mx_at V c hmu]

/-- A point's sums of exponentials. -/
theorem se_at (t : Fin cfg0.N) (r : Fin 256) :
    k0_pay5 (Estep.iblk V c 0 t) (V c main_arg1) (V c main_v3) (V c main_v0) (ix2 r 0)
      = Spec.se (X V c) (M V c) (LP V c) (row ⟨t.val, t.isLt.trans_eq N_0⟩ r) := by
  rw [Payload.pay5_at]
  simp only [ex_at V c hmu]
  rfl

/-- A point's log likelihoods. -/
theorem l_at (t : Fin cfg0.N) (r : Fin 256) :
    Estep.lAt V c t (ix2 r 0) = Spec.ll (X V c) (M V c) (LP V c) (row ⟨t.val, t.isLt.trans_eq N_0⟩ r) := by
  unfold Estep.lAt Estep.lBlk
  rw [estep_in1, estep_in2, estep_in3, Payload.pay6_at, mx_at V c hmu, se_at V c hmu]
  rfl

/-- A point's responsibilities. -/
theorem z_at (t : Fin cfg0.N) (r : Fin 256) (k : Fin 1024) :
    Estep.zAt V c t (ix2 r k) = Spec.zr (X V c) (M V c) (LP V c) (row ⟨t.val, t.isLt.trans_eq N_0⟩ r) k := by
  unfold Estep.zAt Estep.zBlk
  rw [estep_in1, estep_in2, estep_in3, Payload.pay7_at, ex_at V c hmu, se_at V c hmu]
  rfl

/-- A point's column sums of responsibilities. -/
theorem z_sum (t : Fin cfg0.N) (k : Fin 1024) :
    ∑ r : Fin 256, Estep.zAt V c t (ix2 r k)
      = ∑ x ∈ Finset.range 256, ext (fun n => Spec.zr (X V c) (M V c) (LP V c) n k) (256 * t.val + x) := by
  simp only [z_at V c hmu]
  exact sum_block (fun n => Spec.zr (X V c) (M V c) (LP V c) n k) ⟨t.val, t.isLt.trans_eq N_0⟩

/-- After point `n` the running products hold the sum over the rows of the points so far. -/
theorem s_at (k : Fin 1024) (d : Fin 256) : ∀ (n : ℕ) (h : n < cfg0.N), Estep.sAt V c n h (ix2 k d)
    = ∑ x ∈ Finset.range (256 * (n + 1)), ext (fun n => Spec.zr (X V c) (M V c) (LP V c) n k * X V c n d) x := by
  have step : ∀ (t : Fin cfg0.N) (b : Vec Ideal S1024x256 .f32),
      Estep.sNext (Estep.iblk V c 0 t) (Estep.zAt V c t) b (ix2 k d) = b (ix2 k d)
        + ∑ x ∈ Finset.range 256, ext (fun n => Spec.zr (X V c) (M V c) (LP V c) n k * X V c n d) (256 * t.val + x) := by
    intro t b
    unfold Estep.sNext
    rw [Payload.sNext_at, ← sum_block (fun n => Spec.zr (X V c) (M V c) (LP V c) n k * X V c n d) ⟨t.val, t.isLt.trans_eq N_0⟩]
    refine congrArg (_ + ·) (Finset.sum_congr rfl fun r _ => ?_)
    rw [z_at V c hmu, estep_in0]
    rfl
  intro n
  induction n with
  | zero =>
    intro h
    rw [Estep.sAt_first V c ⟨0, h⟩ rfl, step, sum_succ]
    refine congrArg (· + _) ?_
    simp only [Nat.mul_zero, Finset.range_zero, Finset.sum_empty]
    pointwise [k0_pay9]
  | succ n ih =>
    intro h
    rw [Estep.sAt_step V c ⟨n + 1, h⟩ (Nat.succ_ne_zero n), step, sum_succ _ (n + 1), ← ih (Nat.lt_of_succ_lt h)]
    rfl

/-- After point `n` the running totals, with the chunk's partial sums while it is open, hold the sum over the rows of
    the points so far. -/
theorem zs_at (k : Fin 1024) : ∀ (n : ℕ) (h : n < cfg0.N),
    Estep.zsAt V c n h (ix2 0 k) + (if n % 4 = 3 then 0 else total (Estep.accAt V c n h) k)
    = ∑ x ∈ Finset.range (256 * (n + 1)), ext (fun n => Spec.zr (X V c) (M V c) (LP V c) n k) x := by
  intro n
  induction n with
  | zero =>
    intro h
    rw [if_neg (by decide), Estep.zsAt_first V c ⟨0, h⟩ rfl, Estep.accAt_open V c ⟨0, h⟩ rfl, total_next, total_zero, zero_add,
      z_sum V c hmu, sum_succ]
    refine congrArg (· + _) ?_
    simp only [Nat.mul_zero, Finset.range_zero, Finset.sum_empty]
    pointwise [k0_pay8]
  | succ n ih =>
    intro h
    have ih' := ih (Nat.lt_of_succ_lt h)
    rw [sum_succ _ (n + 1), ← ih', ← z_sum V c hmu ⟨n + 1, h⟩ k]
    by_cases h3 : (n + 1) % 4 = 3
    · rw [if_pos h3, add_zero, Estep.zsAt_fold V c ⟨n + 1, h⟩ h3, zsNext_total,
        Estep.accAt_step V c ⟨n + 1, h⟩ (by show ¬(n + 1) % 4 = 0; omega), total_next, if_neg (by omega), add_assoc]
      rfl
    · rw [if_neg h3, Estep.zsAt_keep V c ⟨n + 1, h⟩ (Nat.succ_ne_zero n) h3]
      by_cases h0 : (n + 1) % 4 = 0
      · rw [Estep.accAt_open V c ⟨n + 1, h⟩ h0, total_next, total_zero, zero_add, if_pos (by omega), add_zero]
        rfl
      · rw [Estep.accAt_step V c ⟨n + 1, h⟩ h0, total_next, if_neg (by omega), add_assoc]
        rfl

/-- Region 0 leaves the log likelihoods. -/
theorem out_l (n : Fin 16384) : (Estep.dat V c).arrAt 4 cfg0.N (ix2 n 0) = Spec.ll (X V c) (M V c) (LP V c) n := by
  rw [estep_out4 V c (fun i => Spec.ll (X V c) (M V c) (LP V c) ⟨(i 0).val, (i 0).isLt⟩) fun t r => l_at V c hmu t r]
  rfl

/-- Region 0 leaves the total responsibilities. -/
theorem out_zs (k : Fin 1024) : (Estep.dat V c).arrAt 5 cfg0.N (ix2 0 k) = Spec.zs (X V c) (M V c) (LP V c) k := by
  rw [estep_out5]
  have h := zs_at V c hmu k 63 last0
  rw [if_pos (by decide), add_zero] at h
  rw [h]
  exact (sum_ext _).symm

/-- Region 0 leaves the responsibility-weighted sums of the rows. -/
theorem out_s (k : Fin 1024) (d : Fin 256) : (Estep.dat V c).arrAt 6 cfg0.N (ix2 k d) = Spec.sx (X V c) (M V c) (LP V c) k d := by
  rw [estep_out6, s_at V c hmu]
  exact (sum_ext _).symm

end

end Cert.KernelIdeal.EstepValue

end
-- ==== Proof.SortValue.lean ====
/-
  What the sorting call leaves: its outputs are its inputs in the order of the ranks.
-/
module

public import proofs.«01_k».proof.Proof.Payload
public import Idealize.ShloMosaic.Lib.Routing.BitFacts

@[expose] public section

set_option maxRecDepth 16384

noncomputable section

namespace Cert.KernelIdeal.SortValue

open Cert.KernelIdeal Cert.KernelIdeal.Gen Cert.Rank
open Idealize.ShloMosaic

/-- A bit as a number: one if the fact holds. -/
theorem bit_value (p : Prop) [Decidable p] :
    (FloatOps.sitofp FTy.f32 (BitVec.setWidth 32 (BitVec.ofBool (decide p))) : Ideal .f32) = if p then 1 else 0 := by
  by_cases h : p
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp

/-- Summing bits as 32-bit words counts the facts that hold. -/
theorem fold_bits {ι : Type} (s : Finset ι) (p : ι → Prop) [DecidablePred p] :
    s.fold IntOp.addi (0#32) (fun x => BitVec.setWidth 32 (BitVec.ofBool (decide (p x)))) = BitVec.ofNat 32 (s.filter p).card := by
  classical
  induction s using Finset.induction_on with
  | empty => rfl
  | insert a s ha ih =>
    rw [Finset.fold_insert ha, ih, Finset.filter_insert]
    by_cases h : p a
    · rw [if_pos h, decide_eq_true h, Finset.card_insert_of_notMem (fun g => ha (Finset.mem_filter.mp g).1)]
      show (BitVec.setWidth 32 (BitVec.ofBool true) : BitVec 32) + _ = _
      rw [show (BitVec.setWidth 32 (BitVec.ofBool true) : BitVec 32) = BitVec.ofNat 32 1 from rfl, ← BitVec.ofNat_add, add_comm]
    · rw [if_neg h, decide_eq_false h]
      show (BitVec.setWidth 32 (BitVec.ofBool false) : BitVec 32) + _ = _
      rw [show (BitVec.setWidth 32 (BitVec.ofBool false) : BitVec 32) = 0#32 from rfl, BitVec.zero_add]

/-- Bits joined by "or" and "and" as truth values are. -/
theorem bit_or_and (a b c : Bool) :
    IntOp.ori (BitVec.ofBool a) (IntOp.andi (BitVec.ofBool b) (BitVec.ofBool c)) = BitVec.ofBool (a || (b && c)) := by
  revert a b c; decide

/-- The comparison the second kernel makes of positions `k` and `x`: whether `x` comes after `k` in ascending order. -/
theorem after_bit (v : Fin 1024 → EReal) (k x : Fin 1024) [Decidable (v k < v x)] [Decidable (v x = v k)] [Decidable (Before v k x)] :
    IntOp.ori (BitVec.ofBool (decide (v k < v x)))
      (IntOp.andi (BitVec.ofBool (decide (v x = v k))) (IntOp.cmpi CmpIPredicate.sgt (BitVec.ofNat 32 x.val) (BitVec.ofNat 32 k.val)))
      = BitVec.ofBool (decide (Before v k x)) := by
  have h : IntOp.cmpi CmpIPredicate.sgt (BitVec.ofNat 32 x.val) (BitVec.ofNat 32 k.val) = BitVec.ofBool (decide (k < x)) := by
    show BitVec.ofBool ((BitVec.ofNat 32 k.val).slt (BitVec.ofNat 32 x.val)) = _
    rw [Routing.slt_ofNat32 (by omega) (by omega)]
    rfl
  rw [h, bit_or_and]
  refine congrArg BitVec.ofBool ?_
  rw [Bool.eq_iff_iff]
  simp only [Bool.or_eq_true, Bool.and_eq_true, decide_eq_true_iff]
  exact or_congr Iff.rfl (and_congr eq_comm Iff.rfl)

/-- The permutation matrix the second kernel builds from the totals: one where the column's rank is the row. -/
theorem perm_at (zs : Vec Ideal S1x1024 .f32) (r k : Fin 1024) :
    k1_pay6 zs (ix2 r k) = if r.val = rank (fun x => (zs (ix2 0 x) : EReal)) k then 1 else 0 := by
  classical
  have h : k1_pay6 zs (ix2 r k) = FloatOps.sitofp FTy.f32 (BitVec.setWidth 32 (IntOp.cmpi CmpIPredicate.eq (BitVec.ofNat 32 r.val)
      (Finset.univ.fold IntOp.addi (0#32) fun x => BitVec.setWidth 32 (BitVec.ofBool (decide (Before (fun x => (zs (ix2 0 x) : EReal)) k x)))))) := by
    pointwise [k1_pay6, k1_pay5]
    exact congrArg (fun f => (FloatOps.sitofp FTy.f32 (BitVec.setWidth 32 (IntOp.cmpi CmpIPredicate.eq (BitVec.ofNat 32 r.val)
      (Finset.univ.fold IntOp.addi (0#32) f))) : Ideal .f32))
      (funext fun x => congrArg (BitVec.setWidth 32) (after_bit (fun x => (zs (ix2 0 x) : EReal)) k x))
  rw [h, fold_bits]
  have hc : (Finset.univ.filter fun x => Before (fun x => (zs (ix2 0 x) : EReal)) k x).card = rank (fun x => (zs (ix2 0 x) : EReal)) k := by
    unfold rank; congr
  rw [hc]
  have hle : rank (fun x => (zs (ix2 0 x) : EReal)) k ≤ 1024 := by
    rw [← hc]; exact (Finset.card_le_univ _).trans_eq (Fintype.card_fin _)
  have he : IntOp.cmpi CmpIPredicate.eq (BitVec.ofNat 32 r.val) (BitVec.ofNat 32 (rank (fun x => (zs (ix2 0 x) : EReal)) k))
      = BitVec.ofBool (decide (r.val = rank (fun x => (zs (ix2 0 x) : EReal)) k)) := by
    show BitVec.ofBool (BitVec.ofNat 32 r.val == BitVec.ofNat 32 (rank (fun x => (zs (ix2 0 x) : EReal)) k)) = _
    refine congrArg BitVec.ofBool ?_
    rw [Bool.eq_iff_iff, beq_iff_eq, decide_eq_true_iff]
    constructor
    · intro g
      have g' := congrArg BitVec.toNat g
      rw [BitVec.toNat_ofNat, BitVec.toNat_ofNat, Nat.mod_eq_of_lt (by omega), Nat.mod_eq_of_lt (by omega)] at g'
      exact g'
    · exact fun g => by rw [g]
  rw [he, bit_value]

section

variable (zs : Vec Ideal S1x1024 .f32) (R : Fin 1024 → Fin 1024 → Bool)
  (hR : ∀ a b, R a b = true ↔ (zs (ix2 0 a) : EReal) < zs (ix2 0 b))
include hR

/-- A row of the permutation matrix summed against a table picks the entry sorted to that row. -/
theorem perm_sum (f : Fin 1024 → EReal) (j : Fin 1024) : (∑ x, k1_pay6 zs (ix2 j x) * f x) = f (desc R j) := by
  rw [Finset.sum_eq_single (desc R j)]
  · rw [perm_at, if_pos ((rank_eq_iff (fun x => (zs (ix2 0 x) : EReal)) R hR j _).mpr rfl), one_mul]
  · intro x _ hx
    rw [perm_at, if_neg (fun h => hx ((rank_eq_iff (fun x => (zs (ix2 0 x) : EReal)) R hR j x).mp h)), zero_mul]
  · exact fun h => absurd (Finset.mem_univ _) h

/-- The totals in descending order. -/
theorem sorted_at (j : Fin 1024) : k1_pay7 zs (ix2 0 j) = zs (ix2 0 (desc R j)) := by
  rw [← perm_sum zs R hR (fun x => zs (ix2 0 x)) j]
  pointwise [k1_pay7, k1_pay5]

/-- The mask: one where the sorted total is more than two. -/
theorem mask_at (j : Fin 1024) : Sort.maskOf zs (ix2 0 j) = Spec.keep (zs (ix2 0 (desc R j))) := by
  unfold Sort.maskOf
  pointwise [k1_pay8]
  rw [bit_value, sorted_at zs R hR]
  rfl

/-- The log weights in the totals' descending order. -/
theorem lp_at (v : Vec Ideal S1x1024 .f32) (j : Fin 1024) : Sort.lpOf zs v (ix2 0 j) = v (ix2 0 (desc R j)) := by
  rw [← perm_sum zs R hR (fun x => v (ix2 0 x)) j]
  unfold Sort.lpOf
  pointwise [k1_pay9]

/-- The squared norms of the means in the totals' descending order. -/
theorem mu_at (v : Vec Ideal S1x1024 .f32) (j : Fin 1024) : Sort.muOf zs v (ix2 0 j) = v (ix2 0 (desc R j)) := by
  rw [← perm_sum zs R hR (fun x => v (ix2 0 x)) j]
  unfold Sort.muOf
  pointwise [k1_pay10]

/-- The means in the totals' descending order. -/
theorem means_at (v : Vec Ideal S1024x256 .f32) (j : Fin 1024) (d : Fin 256) :
    Sort.meansOf zs v (ix2 j d) = v (ix2 (desc R j) d) := by
  rw [← perm_sum zs R hR (fun x => v (ix2 x d)) j]
  unfold Sort.meansOf
  generalize k1_pay6 zs = p
  pointwise [k1_pay1]

/-- The new means. -/
theorem newMeans_at (s : Vec Ideal S1024x256 .f32) (j : Fin 1024) (d : Fin 256) :
    Sort.newMeansOf zs s (ix2 j d) = Ideal.div (s (ix2 (desc R j) d) * Spec.keep (zs (ix2 0 (desc R j))))
      (zs (ix2 0 (desc R j)) * Spec.keep (zs (ix2 0 (desc R j))) + Spec.eps) := by
  rw [← perm_sum zs R hR (fun x => s (ix2 x d)) j, ← mask_at zs R hR, ← sorted_at zs R hR]
  unfold Sort.newMeansOf Sort.maskOf
  generalize k1_pay6 zs = p
  generalize k1_pay7 zs = q
  generalize k1_pay8 zs = u
  pointwise [k1_pay4, k1_pay2]

/-- The new weights. -/
theorem newPi_at (j : Fin 1024) :
    Sort.newPiOf zs (ix2 0 j) = Ideal.div (zs (ix2 0 (desc R j)) * Spec.keep (zs (ix2 0 (desc R j))))
      ((∑ x, zs (ix2 0 (desc R x)) * Spec.keep (zs (ix2 0 (desc R x)))) + Spec.eps) := by
  simp only [← mask_at zs R hR]
  simp only [← sorted_at zs R hR]
  unfold Sort.newPiOf Sort.maskOf
  generalize k1_pay7 zs = q
  generalize k1_pay8 zs = u
  pointwise [k1_pay3, k1_pay2]
  simp only [Finset.univ_unique, Finset.sum_const, Finset.card_singleton, one_smul]

end

end Cert.KernelIdeal.SortValue

end
-- ==== Proof.RefValue.lean ====
/-
  The reference's terms, entry by entry, through lemmas about arbitrary operands.
-/
module

public import proofs.«01_k».proof.Proof.Gen.ReferenceIdeal.Read
public import proofs.«01_k».proof.Proof.Spec
public import proofs.«01_k».proof.Proof.Rank
public import Idealize.ShloMosaic.Lib.Pointwise
public import Idealize.ShloMosaic.Lib.ReduceAll

@[expose] public section

set_option maxRecDepth 16384

noncomputable section

namespace Cert.ReferenceIdeal.RefValue

open Cert.ReferenceIdeal Cert.ReferenceIdeal.Read
open Idealize.ShloMosaic Idealize.ShloMosaic.TcCoe Idealize.SL.Sem

variable (x0 : FVec Ideal S16384x256 .f32) (x1 : FVec Ideal S1024x256 .f32) (x2 : FVec Ideal S1024 .f32)

/-- The rows. -/
def X (n : Fin 16384) (d : Fin 256) : EReal := x0 (ix2 n d)
/-- The means. -/
def M (k : Fin 1024) (d : Fin 256) : EReal := x1 (ix2 k d)
/-- The log weights. -/
def LP (k : Fin 1024) : EReal := x2 (ix1 k)

/-- The reference's log densities. -/
theorem v20_at (n : Fin 16384) (k : Fin 1024) :
    val_main_v20 (F := Ideal) x0 x1 x2 (ix2 n k) = Spec.lg (X x0) (M x1) (LP x2) n k := by
  pointwise [val_main_v20, val_main_v19, val_main_cst_3, val_main_v18, val_main_v17, val_main_v16, val_main_v15,
    val_main_cst_2, val_main_v14, val_main_v13, val_main_v12, val_main_v11, val_main_v10, val_main_v9, val_main_v8,
    val_main_v7, val_main_cst_1, val_main_v6, val_main_v5, val_main_v4, val_main_cst_0, val_main_v3, val_main_v2,
    val_main_v1, val_main_cst, val_main_v0, Spec.lg, X, M, LP]

/-- A row's maximum as the host folds it. -/
theorem rowMax (y : FVec Ideal S16384x1024 .f32) (n : Fin 16384) (f : Fin 1024 → EReal) (h : ∀ k, y (ix2 n k) = f k) :
    Host.reduce FloatOps.maximumf y (constant (F := Ideal) S_ .f32 0xFF800000#32) Gen.facts.reducesTo_S16384x1024_S16384_d1
      Gen.facts.h_S_ (ix1 n) = Finset.univ.fold max Spec.ninf f := by
  have e : (fun k => y (ix2 n k)) = f := funext h
  rw [← e]
  pointwise []

/-- The reference's row maxima. -/
theorem v21_at (n : Fin 16384) : val_main_v21 (F := Ideal) x0 x1 x2 (ix1 n) = Spec.mx (X x0) (M x1) (LP x2) n :=
  rowMax (val_main_v20 (F := Ideal) x0 x1 x2) n _ (v20_at x0 x1 x2 n)

/-- The reference's row maxima, taken a second time. -/
theorem v29_at (n : Fin 16384) : val_main_v29 (F := Ideal) x0 x1 x2 (ix1 n) = Spec.mx (X x0) (M x1) (LP x2) n :=
  rowMax (val_main_v20 (F := Ideal) x0 x1 x2) n _ (v20_at x0 x1 x2 n)

/-- A maximum with minus infinity changes nothing. -/
theorem max_ninf (y : FVec Ideal S16384 .f32) (n : Fin 16384) :
    maximumf (val_main_v30 (F := Ideal)) y (ix1 n) = y (ix1 n) := by
  pointwise [val_main_v30, val_main_cst_7]
  exact max_eq_right (by rw [show Ideal.ofBits .f32 4286578688#32 = ⊥ from Spec.ninf_eq]; exact bot_le)

/-- The reference's row maxima, as the responsibilities read them. -/
theorem v31_at (n : Fin 16384) : val_main_v31 (F := Ideal) x0 x1 x2 (ix1 n) = Spec.mx (X x0) (M x1) (LP x2) n :=
  (max_ninf (val_main_v29 (F := Ideal) x0 x1 x2) n).trans (v29_at x0 x1 x2 n)

/-- The reference's exponentials, as the log likelihood reads them. -/
theorem v25_at (n : Fin 16384) (k : Fin 1024) : val_main_v25 (F := Ideal) x0 x1 x2 (ix2 n k)
    = Ideal.exp (Spec.lg (X x0) (M x1) (LP x2) n k - Spec.mx (X x0) (M x1) (LP x2) n) := by
  have h := v20_at x0 x1 x2 n k
  have h' := v21_at x0 x1 x2 n
  unfold val_main_v25 val_main_v24 val_main_v23 val_main_v22
  generalize val_main_v20 (F := Ideal) x0 x1 x2 = y at h ⊢
  generalize val_main_v21 (F := Ideal) x0 x1 x2 = m at h' ⊢
  pointwise []
  rw [h, h']

/-- The reference's exponentials, as the responsibilities read them. -/
theorem v35_at (n : Fin 16384) (k : Fin 1024) : val_main_v35 (F := Ideal) x0 x1 x2 (ix2 n k)
    = Ideal.exp (Spec.lg (X x0) (M x1) (LP x2) n k - Spec.mx (X x0) (M x1) (LP x2) n) := by
  have h := v20_at x0 x1 x2 n k
  have h' := v31_at x0 x1 x2 n
  unfold val_main_v35 val_main_v34 val_main_v33 val_main_v32
  generalize val_main_v20 (F := Ideal) x0 x1 x2 = y at h ⊢
  generalize val_main_v31 (F := Ideal) x0 x1 x2 = m at h' ⊢
  pointwise []
  rw [h, h']

/-- The reference's sums of exponentials, as the log likelihood reads them. -/
theorem v26_at (n : Fin 16384) : val_main_v26 (F := Ideal) x0 x1 x2 (ix1 n) = Spec.se (X x0) (M x1) (LP x2) n := by
  have h := v25_at x0 x1 x2 n
  unfold val_main_v26
  generalize val_main_v25 (F := Ideal) x0 x1 x2 = y at h ⊢
  pointwise [val_main_cst_5]
  simp only [h, Spec.se, Spec.zs]

/-- The reference's sums of exponentials, as the responsibilities read them. -/
theorem v36_at (n : Fin 16384) : val_main_v36 (F := Ideal) x0 x1 x2 (ix1 n) = Spec.se (X x0) (M x1) (LP x2) n := by
  have h := v35_at x0 x1 x2 n
  unfold val_main_v36
  generalize val_main_v35 (F := Ideal) x0 x1 x2 = y at h ⊢
  pointwise [val_main_cst_8]
  simp only [h, Spec.se, Spec.zs]

/-- A sum of two rows' values, the second's logarithm taken. -/
theorem add_log (y s : FVec Ideal S16384 .f32) (n : Fin 16384) :
    addf y (Host.log s) (ix1 n) = y (ix1 n) + Ideal.log (s (ix1 n)) := by
  pointwise []

/-- The reference's log likelihoods. -/
theorem v28_at (n : Fin 16384) : val_main_v28 (F := Ideal) x0 x1 x2 (ix1 n) = Spec.ll (X x0) (M x1) (LP x2) n :=
  (add_log (val_main_v21 (F := Ideal) x0 x1 x2) (val_main_v26 (F := Ideal) x0 x1 x2) n).trans
    (congrArg₂ (fun a b : EReal => a + Ideal.log b) (v21_at x0 x1 x2 n) (v26_at x0 x1 x2 n))

/-- A table divided by a value per row. -/
theorem div_row (y : FVec Ideal S16384x1024 .f32) (s : FVec Ideal S16384 .f32) (n : Fin 16384) (k : Fin 1024) :
    Host.divf y (broadcastInDim S16384x1024 ![0, 1] Gen.facts.bcast_S16384x1_S16384x1024_0_1
      (broadcastInDim S16384x1 ![0] Gen.facts.bcast_S16384_S16384x1_0 s)) (ix2 n k)
      = Ideal.div (y (ix2 n k)) (s (ix1 n)) := by
  pointwise []

/-- The reference's responsibilities. -/
theorem v39_at (n : Fin 16384) (k : Fin 1024) :
    val_main_v39 (F := Ideal) x0 x1 x2 (ix2 n k) = Spec.zr (X x0) (M x1) (LP x2) n k :=
  (div_row (val_main_v35 (F := Ideal) x0 x1 x2) (val_main_v36 (F := Ideal) x0 x1 x2) n k).trans
    (congrArg₂ Ideal.div (v35_at x0 x1 x2 n k) (v36_at x0 x1 x2 n))

/-- A table's column sums. -/
theorem colSum (y : FVec Ideal S16384x1024 .f32) (k : Fin 1024) :
    Host.reduceAdd y (constant (F := Ideal) S_ .f32 0x00000000#32) Gen.facts.reducesTo_S16384x1024_S1024_d0 Gen.facts.h_S_ (ix1 k)
      = ∑ n, y (ix2 n k) := by
  pointwise []

/-- The reference's total responsibilities. -/
theorem v40_at (k : Fin 1024) :
    val_main_v40 (F := Ideal) x0 x1 x2 (ix1 k) = Spec.zs (X x0) (M x1) (LP x2) k :=
  (colSum (val_main_v39 (F := Ideal) x0 x1 x2) k).trans (Finset.sum_congr rfl fun n _ => v39_at x0 x1 x2 n k)

/-- The reference's order of two components: the first's total is less than the second's. -/
def R (a b : Fin 1024) : Bool :=
  comparator_f32_i32_d0 (F := Ideal)
      (val_main_v40 (F := Ideal) x0 x1 x2 (ix1 a), val_main_call0_v0 (F := Ideal) (ix1 a))
      (val_main_v40 (F := Ideal) x0 x1 x2 (ix1 b), val_main_call0_v0 (F := Ideal) (ix1 b)) == 1#1

/-- The comparator reads its two keys alone, and says whether the first is less. -/
theorem comparator_iff (a b : EReal) (i j : BitVec 32) :
    (comparator_f32_i32_d0 (F := Ideal) ((a : Ideal .f32), i) ((b : Ideal .f32), j) == 1#1) = true ↔ a < b := by
  have e : ∀ v : Ideal .f32, Scalar.select (FloatOps.cmpf .une v v) (FloatOps.ofBits .f32 0x7FC00000#32)
      (Scalar.select (FloatOps.cmpf .oeq v (FloatOps.ofBits .f32 0x00000000#32)) (FloatOps.ofBits .f32 0x00000000#32) v) = v := by
    intro v
    have h1 : FloatOps.cmpf .une v v = 0#1 := by
      show BitVec.ofBool (decide (v ≠ v)) = _
      rw [decide_eq_false (fun h => h rfl)]; rfl
    rw [h1]
    show Scalar.select (BitVec.ofBool (decide (v = Ideal.ofBits .f32 0x00000000#32))) (Ideal.ofBits .f32 0x00000000#32) v = v
    by_cases h : v = Ideal.ofBits .f32 0x00000000#32
    · rw [decide_eq_true h]; exact h.symm
    · rw [decide_eq_false h]; rfl
  unfold comparator_f32_i32_d0
  simp only [e]
  show (BitVec.ofBool (decide (a < b)) == 1#1) = true ↔ _
  by_cases h : a < b
  · simp [h]
  · simp [h]

/-- The reference's order is that of the totals. -/
theorem R_iff (a b : Fin 1024) :
    R x0 x1 x2 a b = true ↔ Spec.zs (X x0) (M x1) (LP x2) a < Spec.zs (X x0) (M x1) (LP x2) b := by
  unfold R
  rw [comparator_iff, v40_at, v40_at]

/-- The second operand of a two-operand sort along the one axis, read at a position. -/
theorem sort2_snd_at {α β : Type} (cmp : α × β → α × β → BitVec 1) (x : S1024.Idx → α) (y : S1024.Idx → β) (j : Fin 1024) :
    (Host.sort2 S1024 0 cmp x y).2 (ix1 j)
      = y (ix1 (sortedFrom (fun a b => cmp (x (ix1 a), y (ix1 a)) (x (ix1 b), y (ix1 b)) == 1#1) j)) := by
  have e : (fun c : Fin 1024 => (ix1 j : S1024.Idx).along ⟨0, Nat.one_pos⟩ c) = fun c => ix1 c := by
    funext c a
    obtain rfl : a = 0 := Subsingleton.elim _ _
    rfl
  have key : ∀ g : Fin 1024 → S1024.Idx, g = (fun c => ix1 c) →
      y (g (sortedFrom (fun a b => cmp (x (g a), y (g a)) (x (g b), y (g b)) == 1#1) j))
        = y (ix1 (sortedFrom (fun a b => cmp (x (ix1 a), y (ix1 a)) (x (ix1 b), y (ix1 b)) == 1#1) j)) := by
    rintro _ rfl
    rfl
  unfold Host.sort2
  rw [dif_pos (show 0 < S1024.rank from Nat.one_pos)]
  exact key _ e

/-- The list of positions. -/
theorem iota_at (k : Fin 1024) : val_main_call0_v0 (F := Ideal) (ix1 k) = BitVec.ofNat 32 k.val := rfl

/-- The reference's sorted positions. -/
theorem v41_at (j : Fin 1024) :
    val_main_v41 (F := Ideal) x0 x1 x2 (ix1 j) = BitVec.ofNat 32 (sortedFrom (R x0 x1 x2) j).val := by
  unfold val_main_v41
  rw [sort2_snd_at, iota_at]
  unfold R
  rfl

/-- A list read from its end. -/
theorem reverse_at {α : Type} (x : S1024.Idx → α) (j : Fin 1024) : Host.reverse [0] x (ix1 j) = x (ix1 j.rev) :=
  congrArg x (funext fun a => by obtain rfl : a = 0 := Subsingleton.elim _ _; rfl)

/-- The reference's positions in descending order. -/
theorem v42_at (j : Fin 1024) :
    val_main_v42 (F := Ideal) x0 x1 x2 (ix1 j) = BitVec.ofNat 32 (Rank.desc (R x0 x1 x2) j).val :=
  (reverse_at (val_main_v41 (F := Ideal) x0 x1 x2) j).trans (v41_at x0 x1 x2 j.rev)

/-- A position as a signed word. -/
theorem word_toInt (k : Fin 1024) : (BitVec.ofNat 32 k.val).toInt = (k.val : Int) := by
  have := k.isLt
  have e : (BitVec.ofNat 32 k.val).toNat = k.val := by rw [BitVec.toNat_ofNat]; omega
  rw [BitVec.toInt_eq_toNat_of_lt (by rw [e]; omega), e]

/-- A position as a natural number, off its signed word. -/
theorem word_toNat (k : Fin 1024) : (BitVec.ofNat 32 k.val).toInt.toNat = k.val := by
  rw [word_toInt, Int.toNat_natCast]

/-- A column's elements taken by position. -/
theorem gather2_at (y : FVec Ideal S16384x1024 .f32) (idx : IVec S1024x1 32) (n : Fin 16384) (j k : Fin 1024)
    (h : idx (ix2 j 0) = BitVec.ofNat 32 k.val) :
    Host.gather gather_S16384x1024_S1024x1_S16384x1024_0_1_n_n_1_1_163841 y idx (ix2 n j) = y (ix2 n k) := by
  refine congrArg y (funext fun a => Fin.ext ?_)
  match a with
  | ⟨0, _⟩ =>
    show 0 + 0 + n.val = n.val
    omega
  | ⟨1, _⟩ =>
    show min (idx (gather_S16384x1024_S1024x1_S16384x1024_0_1_n_n_1_1_163841.siIdx (ix2 n j) ⟨0, Nat.one_pos⟩)).toInt.toNat (1024 - 1)
      + 0 + 0 = k.val
    have e : gather_S16384x1024_S1024x1_S16384x1024_0_1_n_n_1_1_163841.siIdx (ix2 n j) ⟨0, Nat.one_pos⟩ = ix2 j 0 :=
      funext fun b => Fin.ext (match b with | ⟨0, _⟩ => rfl | ⟨1, _⟩ => rfl)
    rw [e, h, word_toNat]
    omega

/-- Elements taken by position. -/
theorem gather1_at (y : FVec Ideal S1024 .f32) (idx : IVec S1024x1 32) (j k : Fin 1024)
    (h : idx (ix2 j 0) = BitVec.ofNat 32 k.val) :
    Host.gather gather_S1024_S1024x1_S1024_n_0_n_n_0_1_1 y idx (ix1 j) = y (ix1 k) := by
  refine congrArg y (funext fun a => Fin.ext ?_)
  match a with
  | ⟨0, _⟩ =>
    show min (idx (gather_S1024_S1024x1_S1024_n_0_n_n_0_1_1.siIdx (ix1 j) ⟨0, Nat.one_pos⟩)).toInt.toNat (1024 - 1)
      + 0 + 0 = k.val
    have e : gather_S1024_S1024x1_S1024_n_0_n_n_0_1_1.siIdx (ix1 j) ⟨0, Nat.one_pos⟩ = ix2 j 0 :=
      funext fun b => Fin.ext (match b with | ⟨0, _⟩ => rfl | ⟨1, _⟩ => rfl)
    rw [e, h, word_toNat]
    omega

/-- A position is not negative. -/
theorem not_neg (k : Fin 1024) : IntOp.cmpi .slt (BitVec.ofNat 32 k.val) 0#32 = 0#1 := by
  show BitVec.ofBool (BitVec.slt _ _) = _
  rw [BitVec.slt, word_toInt, show (0#32).toInt = 0 from rfl, decide_eq_false (by omega)]
  rfl

/-- A position is at least zero. -/
theorem zero_le (k : Fin 1024) : IntOp.cmpi .sge (BitVec.ofNat 32 k.val) 0#32 = 1#1 := by
  show BitVec.ofBool (BitVec.sle _ _) = _
  rw [BitVec.sle, word_toInt, show (0#32).toInt = 0 from rfl, decide_eq_true (by omega)]
  rfl

/-- A position is at most the last. -/
theorem le_last (k : Fin 1024) : IntOp.cmpi .sle (BitVec.ofNat 32 k.val) 1023#32 = 1#1 := by
  have := k.isLt
  show BitVec.ofBool (BitVec.sle _ _) = _
  rw [BitVec.sle, word_toInt, show (1023#32).toInt = 1023 from rfl, decide_eq_true (by omega)]
  rfl

/-- A list of positions as a take reads it. -/
theorem takePos_at (y : IVec S1024 32) (j k : Fin 1024) (h : y (ix1 j) = BitVec.ofNat 32 k.val) :
    broadcastInDim S1024x1 ![0] Gen.facts.bcast_S1024_S1024x1_0
      (select (cmpi .slt y (val_main_call1_v0 (F := Ideal))) (addi y (val_main_call1_v2 (F := Ideal))) y) (ix2 j 0)
      = BitVec.ofNat 32 k.val := by
  pointwise [val_main_call1_v0, val_main_call1_c]
  rw [h, not_neg]
  rfl

/-- An index of a list of positions by its one coordinate. -/
theorem idx_eq (i : S1024x1.Idx) : ∃ j : Fin 1024, i = ix2 j 0 :=
  ⟨i 0, funext fun a => match a with
    | ⟨0, _⟩ => rfl
    | ⟨1, _⟩ => Fin.ext (by have h : (i 1).val < 1 := (i 1).isLt; show (i 1).val = 0; omega)⟩

/-- A take's range check holds at every position. -/
theorem takeOk_at (y : IVec S1024x1 32) (σ : Fin 1024 → Fin 1024) (h : ∀ j, y (ix2 j 0) = BitVec.ofNat 32 (σ j).val) (j : Fin 1024) :
    Host.reduce IntOp.andi (andi (cmpi .sge y (val_main_call1_v6 (F := Ideal))) (cmpi .sle y (val_main_call1_v9 (F := Ideal))))
      (val_main_call1_c_3 (F := Ideal)) Gen.facts.reducesTo_S1024x1_S1024_d1 Gen.facts.h_S_ (ix1 j) = 1#1 := by
  refine Host.reduce_andi_one _ _ _ _ _ rfl fun i => ?_
  obtain ⟨j', rfl⟩ := idx_eq i
  have h' := h j'
  pointwise [val_main_call1_v6, val_main_call1_v8, val_main_call1_v9, val_main_call1_c_1, val_main_call1_c_2]
  rw [h', zero_le, le_last]
  rfl

/-- The positions as the first take reads them. -/
theorem call1_v5_at (j : Fin 1024) :
    val_main_call1_v5 (F := Ideal) x0 x1 x2 (ix2 j 0) = BitVec.ofNat 32 (Rank.desc (R x0 x1 x2) j).val :=
  takePos_at (val_main_v42 (F := Ideal) x0 x1 x2) j _ (v42_at x0 x1 x2 j)

/-- The positions as the second take reads them. -/
theorem call2_v5_at (j : Fin 1024) :
    val_main_call2_v5 (F := Ideal) x0 x1 x2 (ix2 j 0) = BitVec.ofNat 32 (Rank.desc (R x0 x1 x2) j).val :=
  takePos_at (val_main_v42 (F := Ideal) x0 x1 x2) j _ (v42_at x0 x1 x2 j)

/-- The first take's positions are all in range. -/
theorem call1_v12_at (j : Fin 1024) : val_main_call1_v12 (F := Ideal) x0 x1 x2 (ix1 j) = 1#1 :=
  takeOk_at (val_main_call1_v5 (F := Ideal) x0 x1 x2) _ (call1_v5_at x0 x1 x2) j

/-- The second take's positions are all in range. -/
theorem call2_v12_at (j : Fin 1024) : val_main_call2_v12 (F := Ideal) x0 x1 x2 (ix1 j) = 1#1 :=
  takeOk_at (val_main_call2_v5 (F := Ideal) x0 x1 x2) _ (call2_v5_at x0 x1 x2) j

/-- Where a column's range check holds the take's element is the one gathered. -/
theorem select2_at (c : IVec S1024 1) (y w : FVec Ideal S16384x1024 .f32) (n : Fin 16384) (j : Fin 1024) (h : c (ix1 j) = 1#1) :
    select (broadcastInDim S16384x1024 ![1] Gen.facts.bcast_S1024_S16384x1024_1 c) y w (ix2 n j) = y (ix2 n j) := by
  pointwise []
  rw [h]
  rfl

/-- Where the range check holds the take's element is the one gathered. -/
theorem select1_at (c : IVec S1024 1) (y w : FVec Ideal S1024 .f32) (j : Fin 1024) (h : c (ix1 j) = 1#1) :
    select c y w (ix1 j) = y (ix1 j) := by
  pointwise []
  rw [h]
  rfl

/-- The reference's responsibilities, the components in descending order. -/
theorem v43_at (n : Fin 16384) (j : Fin 1024) :
    val_main_v43 (F := Ideal) x0 x1 x2 (ix2 n j) = Spec.zr (X x0) (M x1) (LP x2) n (Rank.desc (R x0 x1 x2) j) :=
  (select2_at (val_main_call1_v12 (F := Ideal) x0 x1 x2) (val_main_call1_v13 (F := Ideal) x0 x1 x2)
    (val_main_call1_v15 (F := Ideal)) n j (call1_v12_at x0 x1 x2 j)).trans
    ((gather2_at (val_main_v39 (F := Ideal) x0 x1 x2) (val_main_call1_v5 (F := Ideal) x0 x1 x2) n j _ (call1_v5_at x0 x1 x2 j)).trans
      (v39_at x0 x1 x2 n _))

/-- The reference's total responsibilities in descending order. -/
theorem v44_at (j : Fin 1024) :
    val_main_v44 (F := Ideal) x0 x1 x2 (ix1 j) = Spec.zs (X x0) (M x1) (LP x2) (Rank.desc (R x0 x1 x2) j) :=
  (select1_at (val_main_call2_v12 (F := Ideal) x0 x1 x2) (val_main_call2_v13 (F := Ideal) x0 x1 x2)
    (val_main_call2_v14 (F := Ideal)) j (call2_v12_at x0 x1 x2 j)).trans
    ((gather1_at (val_main_v40 (F := Ideal) x0 x1 x2) (val_main_call2_v5 (F := Ideal) x0 x1 x2) j _ (call2_v5_at x0 x1 x2 j)).trans
      (v40_at x0 x1 x2 _))

/-- A table masked by which sorted totals are more than two. -/
theorem masked_at (y : FVec Ideal S16384x1024 .f32) (z : FVec Ideal S1024 .f32) (n : Fin 16384) (j : Fin 1024) :
    mulf y (broadcastInDim S16384x1024 ![0, 1] Gen.facts.bcast_S1x1024_S16384x1024_0_1
      (broadcastInDim S1x1024 ![1] Gen.facts.bcast_S1024_S1x1024_1
        (uitofp .f32 (cmpf .ogt z (val_main_v45 (F := Ideal)))))) (ix2 n j) = y (ix2 n j) * Spec.keep (z (ix1 j)) := by
  pointwise [val_main_v45, val_main_cst_10]
  refine congrArg (y (ix2 n j) * ·) ?_
  show FloatOps.uitofp (F := Ideal) FTy.f32 (BitVec.ofBool (decide (Spec.two < z (ix1 j)))) = Spec.keep (z (ix1 j))
  unfold Spec.keep
  by_cases h : Spec.two < z (ix1 j)
  · rw [if_pos h, decide_eq_true h]
    show (((1 : ℕ) : ℝ) : EReal) = 1
    norm_num
  · rw [if_neg h, decide_eq_false h]
    show (((0 : ℕ) : ℝ) : EReal) = 0
    norm_num

/-- The reference's second result: the kept responsibilities, the components in descending order. -/
theorem v50_at (n : Fin 16384) (j : Fin 1024) :
    val_main_v50 (F := Ideal) x0 x1 x2 (ix2 n j) = Spec.zr (X x0) (M x1) (LP x2) n (Rank.desc (R x0 x1 x2) j)
      * Spec.keep (Spec.zs (X x0) (M x1) (LP x2) (Rank.desc (R x0 x1 x2) j)) :=
  (masked_at (val_main_v43 (F := Ideal) x0 x1 x2) (val_main_v44 (F := Ideal) x0 x1 x2) n j).trans
    (congrArg₂ (fun a b : EReal => a * Spec.keep b) (v43_at x0 x1 x2 n j) (v44_at x0 x1 x2 j))

/-- The kept totals. -/
theorem v51_at (j : Fin 1024) :
    val_main_v51 (F := Ideal) x0 x1 x2 (ix1 j) = Spec.zs (X x0) (M x1) (LP x2) (Rank.desc (R x0 x1 x2) j)
      * Spec.keep (Spec.zs (X x0) (M x1) (LP x2) (Rank.desc (R x0 x1 x2) j)) :=
  ((colSum (val_main_v50 (F := Ideal) x0 x1 x2) j).trans (Finset.sum_congr rfl fun n _ => v50_at x0 x1 x2 n j)).trans
    (Spec.sum_mul_keep _ _ _)

/-- A table's transpose times the rows. -/
theorem dot_at (y : FVec Ideal S16384x1024 .f32) (j : Fin 1024) (d : Fin 256) :
    Host.dotGeneral dot_S1024x16384_S16384x256_S1024x256_1_0_0_1_n_n none
      (transpose S1024x16384 [1, 0] y Gen.facts.transposes_S16384x1024_S1024x16384_1_0) x0 (ix2 j d)
      = ∑ n, y (ix2 n j) * x0 (ix2 n d) := by
  pointwise []

/-- The kept weighted sums of the rows. -/
theorem v53_at (j : Fin 1024) (d : Fin 256) :
    val_main_v53 (F := Ideal) x0 x1 x2 (ix2 j d) = Spec.sx (X x0) (M x1) (LP x2) (Rank.desc (R x0 x1 x2) j) d
      * Spec.keep (Spec.zs (X x0) (M x1) (LP x2) (Rank.desc (R x0 x1 x2) j)) :=
  ((dot_at x0 (val_main_v50 (F := Ideal) x0 x1 x2) j d).trans
    (Finset.sum_congr rfl fun n _ => congrArg (· * (x0 (ix2 n d) : EReal)) (v50_at x0 x1 x2 n j))).trans
    (Spec.sum_mul_keep_mul _ _ _ _)

/-- A table divided by a value per row with a small constant added. -/
theorem divEps_at (y : FVec Ideal S1024x256 .f32) (z : FVec Ideal S1024 .f32) (j : Fin 1024) (d : Fin 256) :
    Host.divf y (broadcastInDim S1024x256 ![0, 1] Gen.facts.bcast_S1024x1_S1024x256_0_1
      (addf (broadcastInDim S1024x1 ![0] Gen.facts.bcast_S1024_S1024x1_0 z) (val_main_v55 (F := Ideal)))) (ix2 j d)
      = Ideal.div (y (ix2 j d)) (z (ix1 j) + Spec.eps) := by
  pointwise [val_main_v55, val_main_cst_12]

/-- The reference's third result: the new means. -/
theorem v58_at (j : Fin 1024) (d : Fin 256) :
    val_main_v58 (F := Ideal) x0 x1 x2 (ix2 j d) = Ideal.div
      (Spec.sx (X x0) (M x1) (LP x2) (Rank.desc (R x0 x1 x2) j) d * Spec.keep (Spec.zs (X x0) (M x1) (LP x2) (Rank.desc (R x0 x1 x2) j)))
      (Spec.zs (X x0) (M x1) (LP x2) (Rank.desc (R x0 x1 x2) j) * Spec.keep (Spec.zs (X x0) (M x1) (LP x2) (Rank.desc (R x0 x1 x2) j))
        + Spec.eps) :=
  (divEps_at (val_main_v53 (F := Ideal) x0 x1 x2) (val_main_v51 (F := Ideal) x0 x1 x2) j d).trans
    (congrArg₂ (fun a b : EReal => Ideal.div a (b + Spec.eps)) (v53_at x0 x1 x2 j d) (v51_at x0 x1 x2 j))

/-- A list divided by its sum with a small constant added. -/
theorem normalise_at (z : FVec Ideal S1024 .f32) (j : Fin 1024) :
    Host.divf z (broadcastInDim S1024 ![] Gen.facts.bcast_S_S1024
      (addf (Host.reduceAdd z (constant (F := Ideal) S_ .f32 0x00000000#32) Gen.facts.reducesTo_S1024_S_d0 Gen.facts.h_S_)
        (val_main_cst_14 (F := Ideal)))) (ix1 j)
      = Ideal.div (z (ix1 j)) (∑ i, z (ix1 i) + Spec.eps) := by
  pointwise [val_main_cst_14]

/-- The reference's fourth result: the new weights. -/
theorem v62_at (j : Fin 1024) :
    val_main_v62 (F := Ideal) x0 x1 x2 (ix1 j) = Ideal.div
      (Spec.zs (X x0) (M x1) (LP x2) (Rank.desc (R x0 x1 x2) j) * Spec.keep (Spec.zs (X x0) (M x1) (LP x2) (Rank.desc (R x0 x1 x2) j)))
      (∑ i, Spec.zs (X x0) (M x1) (LP x2) (Rank.desc (R x0 x1 x2) i)
        * Spec.keep (Spec.zs (X x0) (M x1) (LP x2) (Rank.desc (R x0 x1 x2) i)) + Spec.eps) :=
  (normalise_at (val_main_v51 (F := Ideal) x0 x1 x2) j).trans
    (congrArg₂ (fun a b : EReal => Ideal.div a (b + Spec.eps)) (v51_at x0 x1 x2 j)
      (Finset.sum_congr rfl fun i _ => v51_at x0 x1 x2 i))

end Cert.ReferenceIdeal.RefValue

end
-- ==== Proof.KernelValue.lean ====
/-
  The kernel's four results, entry by entry, are the reference's result terms.
-/
module

public import proofs.«01_k».proof.Proof.EstepValue
public import proofs.«01_k».proof.Proof.SortValue
public import proofs.«01_k».proof.Proof.Run
public import proofs.«01_k».proof.Proof.RefValue

@[expose] public section

set_option maxRecDepth 16384

noncomputable section

namespace Cert.KernelIdeal.KernelValue

open Cert.KernelIdeal Cert.KernelIdeal.Gen Cert.KernelIdeal.Arrays
open Idealize.ShloMosaic Idealize.ShloMosaic.TcCoe Idealize.SL.Sem

variable (m : ∀ l : Loc nD τ sig, Buf (Elt Ideal) l) (c : Dev nD)

/-- The rows given to the kernel. -/
def x0 : FVec Ideal S16384x256 .f32 := m ((c : Thread nD τ).loc main_arg0)
/-- The means given to the kernel. -/
def x1 : FVec Ideal S1024x256 .f32 := m ((c : Thread nD τ).loc main_arg1)
/-- The log weights given to the kernel. -/
def x2 : FVec Ideal S1024 .f32 := m ((c : Thread nD τ).loc main_arg2)

/-- The first host stretch leaves the log weights as one row. -/
theorem w1_v0 : Run.W1 m c (Proc.devRef .tc main_v0) = shapeCast S1x1024 (x2 m c) Gen.facts.shapeCasts_S1024_S1x1024 := by
  unfold Run.W1
  unfold_abbrev_sides
  after_results
  rfl

/-- The first host stretch leaves the squared norms of the means as one row. -/
theorem w1_v3 : Run.W1 m c (Proc.devRef .tc main_v3)
    = shapeCast S1x1024 (Host.reduceAdd (mulf (x1 m c) (x1 m c)) (constant (F := Ideal) S_ .f32 0x00000000#32)
      Gen.facts.reducesTo_S1024x256_S1024_d1 Gen.facts.h_S_) Gen.facts.shapeCasts_S1024_S1x1024 := by
  unfold Run.W1
  unfold_abbrev_sides
  after_results
  rfl

/-- The last host stretch leaves the log likelihoods as a list. -/
theorem w5_v7 : Run.W5 m c (Proc.devRef .tc main_v7)
    = shapeCast S16384 (Run.W4 m c (Proc.devRef .tc main_v4_0)) Gen.facts.shapeCasts_S16384x1_S16384 := by
  unfold Run.W5
  generalize Run.W4 m c = W
  unfold_abbrev_sides
  after_results
  rfl

/-- The last host stretch leaves the new weights as a list. -/
theorem w5_v8 : Run.W5 m c (Proc.devRef .tc main_v8)
    = shapeCast S1024 (Run.W4 m c (Proc.devRef .tc main_v5_5)) Gen.facts.shapeCasts_S1x1024_S1024 := by
  unfold Run.W5
  generalize Run.W4 m c = W
  unfold_abbrev_sides
  after_results
  rfl

/-- The rows, as the specification takes them. -/
abbrev X : Fin 16384 → Fin 256 → EReal := ReferenceIdeal.RefValue.X (x0 m c)
/-- The means, as the specification takes them. -/
abbrev M : Fin 1024 → Fin 256 → EReal := ReferenceIdeal.RefValue.M (x1 m c)
/-- The log weights, as the specification takes them. -/
abbrev LP : Fin 1024 → EReal := ReferenceIdeal.RefValue.LP (x2 m c)

/-- Every region finds the rows as given. -/
theorem w1_arg0 : Run.V1 m c main_arg0 = x0 m c := Run.W1_args m c main_arg0 (by simp)
/-- The first region finds the means as given. -/
theorem w1_arg1 : Run.V1 m c main_arg1 = x1 m c := Run.W1_args m c main_arg1 (by simp)

/-- The first region finds the log weights. -/
theorem lp_at (k : Fin 1024) : Run.V1 m c main_v0 (ix2 0 k) = LP m c k := by
  have h : Run.V1 m c main_v0 = _ := w1_v0 m c
  rw [h]
  unfold LP ReferenceIdeal.RefValue.LP
  generalize x2 m c = y
  pointwise []

/-- The first region finds the squared norms of the means. -/
theorem mu_at (k : Fin 1024) : Run.V1 m c main_v3 (ix2 0 k) = ∑ d, M m c k d * M m c k d := by
  have h : Run.V1 m c main_v3 = _ := w1_v3 m c
  rw [h]
  unfold M ReferenceIdeal.RefValue.M
  generalize x1 m c = y
  pointwise []

/-- The tables the first region works from are those given. -/
theorem tables : EstepValue.X (Run.V1 m) c = X m c ∧ EstepValue.M (Run.V1 m) c = M m c ∧ EstepValue.LP (Run.V1 m) c = LP m c := by
  refine ⟨funext fun n => funext fun d => ?_, funext fun k => funext fun d => ?_, funext fun k => lp_at m c k⟩
  · exact congrFun (w1_arg0 m c) (ix2 n d)
  · exact congrFun (w1_arg1 m c) (ix2 k d)

/-- The squared norms the first region finds are those of the means it finds. -/
theorem hmu (k : Fin 1024) : Run.V1 m c main_v3 (ix2 0 k) = ∑ d, EstepValue.M (Run.V1 m) c k d * EstepValue.M (Run.V1 m) c k d := by
  rw [mu_at, (tables m c).2.1]

/-- After the first region: the log likelihoods. -/
theorem l_at (n : Fin 16384) : Run.W2 m c (Proc.devRef .tc main_v4_0) (ix2 n 0) = Spec.ll (X m c) (M m c) (LP m c) n := by
  have h := EstepValue.out_l (Run.V1 m) c (hmu m c) n
  rw [(tables m c).1, (tables m c).2.1, (tables m c).2.2] at h
  exact (congrFun (Run.W2_arr m c 4) (ix2 n 0)).trans h

/-- After the first region: the total responsibilities. -/
theorem zs_at (k : Fin 1024) : Run.W2 m c (Proc.devRef .tc main_v4_1) (ix2 0 k) = Spec.zs (X m c) (M m c) (LP m c) k := by
  have h := EstepValue.out_zs (Run.V1 m) c (hmu m c) k
  rw [(tables m c).1, (tables m c).2.1, (tables m c).2.2] at h
  exact (congrFun (Run.W2_arr m c 5) (ix2 0 k)).trans h

/-- After the first region: the responsibility-weighted sums of the rows. -/
theorem s_at (k : Fin 1024) (d : Fin 256) :
    Run.W2 m c (Proc.devRef .tc main_v4_2) (ix2 k d) = Spec.sx (X m c) (M m c) (LP m c) k d := by
  have h := EstepValue.out_s (Run.V1 m) c (hmu m c) k d
  rw [(tables m c).1, (tables m c).2.1, (tables m c).2.2] at h
  exact (congrFun (Run.W2_arr m c 6) (ix2 k d)).trans h

/-- The reference's order of the components, at what the kernel is given. -/
abbrev R : Fin 1024 → Fin 1024 → Bool := ReferenceIdeal.RefValue.R (x0 m c) (x1 m c) (x2 m c)

/-- The totals as the second region finds them. -/
abbrev zsK : Vec Ideal S1x1024 .f32 := Run.V2 m c main_v4_1

/-- The totals the second region finds are in the reference's order. -/
theorem hR (a b : Fin 1024) : R m c a b = true ↔ (zsK m c (ix2 0 a) : EReal) < zsK m c (ix2 0 b) := by
  have ha : zsK m c (ix2 0 a) = _ := zs_at m c a
  have hb : zsK m c (ix2 0 b) = _ := zs_at m c b
  rw [ha, hb]
  exact ReferenceIdeal.RefValue.R_iff _ _ _ a b

/-- The component listed at position `j`. -/
abbrev σ (j : Fin 1024) : Fin 1024 := Rank.desc (R m c) j

/-- What the second region finds of the first's inputs is unchanged. -/
theorem w2_arg1 : Run.V2 m c main_arg1 = x1 m c := Run.W2_args m c main_arg1 (by simp)
/-- The first call leaves the log weights' row. -/
theorem w2_v0 : Run.V2 m c main_v0 = Run.V1 m c main_v0 := Run.W2_of m c main_v0 (by decide +kernel)
/-- The first call leaves the row of the means' squared norms. -/
theorem w2_v3 : Run.V2 m c main_v3 = Run.V1 m c main_v3 := Run.W2_of m c main_v3 (by decide +kernel)

/-- After the second region: the mask. -/
theorem mask_at (j : Fin 1024) :
    Run.W3 m c (Proc.devRef .tc main_v5_0) (ix2 0 j) = Spec.keep (Spec.zs (X m c) (M m c) (LP m c) (σ m c j)) := by
  rw [← zs_at]
  exact (congrFun ((Run.W3_arr m c 5).trans (sort_out5 (Run.V2 m) c)) (ix2 0 j)).trans (SortValue.mask_at _ (R m c) (hR m c) j)

/-- After the second region: the log weights in order. -/
theorem lpSorted_at (j : Fin 1024) : Run.W3 m c (Proc.devRef .tc main_v5_1) (ix2 0 j) = LP m c (σ m c j) := by
  rw [← lp_at, ← w2_v0]
  exact (congrFun ((Run.W3_arr m c 6).trans (sort_out6 (Run.V2 m) c)) (ix2 0 j)).trans (SortValue.lp_at _ (R m c) (hR m c) _ j)

/-- After the second region: the squared norms of the means in order. -/
theorem muSorted_at (j : Fin 1024) :
    Run.W3 m c (Proc.devRef .tc main_v5_2) (ix2 0 j) = ∑ d, M m c (σ m c j) d * M m c (σ m c j) d := by
  rw [← mu_at, ← w2_v3]
  exact (congrFun ((Run.W3_arr m c 7).trans (sort_out7 (Run.V2 m) c)) (ix2 0 j)).trans (SortValue.mu_at _ (R m c) (hR m c) _ j)

/-- After the second region: the means in order. -/
theorem meansSorted_at (j : Fin 1024) (d : Fin 256) : Run.W3 m c (Proc.devRef .tc main_v5_3) (ix2 j d) = M m c (σ m c j) d :=
  ((congrFun ((Run.W3_arr m c 8).trans (sort_out8 (Run.V2 m) c)) (ix2 j d)).trans
    (SortValue.means_at _ (R m c) (hR m c) _ j d)).trans (congrFun (w2_arg1 m c) (ix2 (σ m c j) d))

/-- After the second region: the new means. -/
theorem newMeans_at (j : Fin 1024) (d : Fin 256) : Run.W3 m c (Proc.devRef .tc main_v5_4) (ix2 j d) = Ideal.div
    (Spec.sx (X m c) (M m c) (LP m c) (σ m c j) d * Spec.keep (Spec.zs (X m c) (M m c) (LP m c) (σ m c j)))
    (Spec.zs (X m c) (M m c) (LP m c) (σ m c j) * Spec.keep (Spec.zs (X m c) (M m c) (LP m c) (σ m c j)) + Spec.eps) := by
  rw [← zs_at, ← s_at]
  exact (congrFun ((Run.W3_arr m c 9).trans (sort_out9 (Run.V2 m) c)) (ix2 j d)).trans
    (SortValue.newMeans_at _ (R m c) (hR m c) _ j d)

/-- After the second region: the new weights. -/
theorem newPi_at (j : Fin 1024) : Run.W3 m c (Proc.devRef .tc main_v5_5) (ix2 0 j) = Ideal.div
    (Spec.zs (X m c) (M m c) (LP m c) (σ m c j) * Spec.keep (Spec.zs (X m c) (M m c) (LP m c) (σ m c j)))
    (∑ i, Spec.zs (X m c) (M m c) (LP m c) (σ m c i) * Spec.keep (Spec.zs (X m c) (M m c) (LP m c) (σ m c i)) + Spec.eps) := by
  simp only [← zs_at]
  exact (congrFun ((Run.W3_arr m c 10).trans (sort_out10 (Run.V2 m) c)) (ix2 0 j)).trans
    (SortValue.newPi_at _ (R m c) (hR m c) j)

/-- The last region's block, read at an index. -/
theorem zOut_at (v0 : Vec Ideal S256x256 .f32) (v1 : Vec Ideal S1024x256 .f32) (v2 v3 v4 : Vec Ideal S1x1024 .f32) (v5 : Vec Ideal S256x1 .f32)
    (r : Fin 256) (k : Fin 1024) :
    Zout.zOut v0 v1 v2 v3 v4 v5 (ix2 r k) = Ideal.exp (v2 (ix2 0 k) - Spec.half * (∑ d, v0 (ix2 r d) * v0 (ix2 r d)
      - Spec.two * ∑ d, v0 (ix2 r d) * v1 (ix2 k d) + v3 (ix2 0 k)) - Spec.c0 - v5 (ix2 r 0)) * v4 (ix2 0 k) := by
  unfold Zout.zOut
  pointwise [k2_pay1]

/-- The rows and the log likelihoods as the last region finds them. -/
theorem w3_arg0 : Run.V3 m c main_arg0 = x0 m c := Run.W3_args m c main_arg0 (by simp)
/-- The second call leaves the log likelihoods. -/
theorem w3_l : Run.V3 m c main_v4_0 = Run.W2 m c (Proc.devRef .tc main_v4_0) := Run.W3_of m c main_v4_0 (by decide +kernel)

/-- After the last region: the kept responsibilities, the components in order. -/
theorem z_arr : Run.W4 m c (Proc.devRef .tc main_v6)
    = ReferenceIdeal.Read.val_main_v50 (F := Ideal) (x0 m c) (x1 m c) (x2 m c) := by
  refine (Run.W4_arr m c 6).trans (zout_out6 (Run.V3 m) c _ fun t r k => ?_)
  have h1 : ∀ d, Run.V3 m c main_v5_3 (ix2 k d) = _ := meansSorted_at m c k
  have h2 : Run.V3 m c main_v5_1 (ix2 0 k) = _ := lpSorted_at m c k
  have h3 : Run.V3 m c main_v5_2 (ix2 0 k) = _ := muSorted_at m c k
  have h4 : Run.V3 m c main_v5_0 (ix2 0 k) = _ := mask_at m c k
  have h5 : Run.V3 m c main_v4_0 (ix2 (row ⟨t.val, t.isLt.trans_eq N_2⟩ r) 0) = _ :=
    (congrFun (w3_l m c) (ix2 (row ⟨t.val, t.isLt.trans_eq N_2⟩ r) 0)).trans (l_at m c _)
  have h0 : ∀ d, Run.V3 m c main_arg0 (ix2 (row ⟨t.val, t.isLt.trans_eq N_2⟩ r) d) = X m c (row ⟨t.val, t.isLt.trans_eq N_2⟩ r) d :=
    fun d => congrFun (w3_arg0 m c) _
  rw [zOut_at, ReferenceIdeal.RefValue.v50_at, zout_in5, h2, h3, h4, h5]
  simp only [zout_in0, h0, h1]
  exact Spec.exp_mul_keep (row ⟨t.val, t.isLt.trans_eq N_2⟩ r) (σ m c k)

/-- A column as a list. -/
theorem column_at (y : Vec Ideal S16384x1 .f32) (n : Fin 16384) :
    shapeCast S16384 y Gen.facts.shapeCasts_S16384x1_S16384 (ix1 n) = y (ix2 n 0) := by
  pointwise []

/-- A row as a list. -/
theorem row_at (y : Vec Ideal S1x1024 .f32) (k : Fin 1024) :
    shapeCast S1024 y Gen.facts.shapeCasts_S1x1024_S1024 (ix1 k) = y (ix2 0 k) := by
  pointwise []

/-- The first result is the reference's. -/
theorem res_l : Run.W5 m c (Proc.devRef .tc main_v7)
    = ReferenceIdeal.Read.val_main_v28 (F := Ideal) (x0 m c) (x1 m c) (x2 m c) := by
  have h : Run.W4 m c (Proc.devRef .tc main_v4_0) = Run.W2 m c (Proc.devRef .tc main_v4_0) :=
    (Run.W4_of m c main_v4_0 (by decide +kernel)).trans (w3_l m c)
  have key : ∀ n : Fin 16384, Run.W5 m c (Proc.devRef .tc main_v7) (ix1 n)
      = ReferenceIdeal.Read.val_main_v28 (F := Ideal) (x0 m c) (x1 m c) (x2 m c) (ix1 n) := fun n =>
    (congrFun (w5_v7 m c) (ix1 n)).trans ((column_at _ n).trans ((congrFun h (ix2 n 0)).trans
      ((l_at m c n).trans (ReferenceIdeal.RefValue.v28_at _ _ _ n).symm)))
  funext i
  have hi : i = ix1 (i 0) := funext fun a => match a with | ⟨0, _⟩ => rfl
  rw [hi]
  exact key (i 0)

/-- The second result is the reference's. -/
theorem res_z : Run.W5 m c (Proc.devRef .tc main_v6)
    = ReferenceIdeal.Read.val_main_v50 (F := Ideal) (x0 m c) (x1 m c) (x2 m c) :=
  (Run.W5_of m c main_v6 (by decide)).trans (z_arr m c)

/-- The third result is the reference's. -/
theorem res_means : Run.W5 m c (Proc.devRef .tc main_v5_4)
    = ReferenceIdeal.Read.val_main_v58 (F := Ideal) (x0 m c) (x1 m c) (x2 m c) := by
  refine ((Run.W5_of m c main_v5_4 (by decide)).trans (Run.W4_of m c main_v5_4 (by decide +kernel))).trans ?_
  have key : ∀ (j : Fin 1024) (d : Fin 256), Run.W3 m c (Proc.devRef .tc main_v5_4) (ix2 j d)
      = ReferenceIdeal.Read.val_main_v58 (F := Ideal) (x0 m c) (x1 m c) (x2 m c) (ix2 j d) := fun j d =>
    (newMeans_at m c j d).trans (ReferenceIdeal.RefValue.v58_at _ _ _ j d).symm
  funext i
  have hi : i = ix2 (i 0) (i 1) := funext fun a => match a with | ⟨0, _⟩ => rfl | ⟨1, _⟩ => rfl
  rw [hi]
  exact key (i 0) (i 1)

/-- The fourth result is the reference's. -/
theorem res_pi : Run.W5 m c (Proc.devRef .tc main_v8)
    = ReferenceIdeal.Read.val_main_v62 (F := Ideal) (x0 m c) (x1 m c) (x2 m c) := by
  have h : Run.W4 m c (Proc.devRef .tc main_v5_5) = Run.W3 m c (Proc.devRef .tc main_v5_5) :=
    Run.W4_of m c main_v5_5 (by decide +kernel)
  have key : ∀ n : Fin 1024, Run.W5 m c (Proc.devRef .tc main_v8) (ix1 n)
      = ReferenceIdeal.Read.val_main_v62 (F := Ideal) (x0 m c) (x1 m c) (x2 m c) (ix1 n) := fun n =>
    (congrFun (w5_v8 m c) (ix1 n)).trans ((row_at _ n).trans ((congrFun h (ix2 0 n)).trans
      ((newPi_at m c n).trans (ReferenceIdeal.RefValue.v62_at _ _ _ n).symm)))
  funext i
  have hi : i = ix1 (i 0) := funext fun a => match a with | ⟨0, _⟩ => rfl
  rw [hi]
  exact key (i 0)

end Cert.KernelIdeal.KernelValue

end
-- ==== Proof.lean ====
/-
  The claims, assembled: the runs of the two kernel programs and of the reference give the frames, and the values the
  idealized kernel leaves, shown equal to the reference's result terms, give the agreement of all four results.
-/
module

public import proofs.«01_k».proof.Defs
public import proofs.«01_k».proof.Proof.Run
public import proofs.«01_k».proof.Proof.BitsRun
public import proofs.«01_k».proof.Proof.KernelValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The kernel as compiled runs, and leaves its arguments unchanged and every semaphore at zero. -/
theorem frameBits : Cert.quiescent_Kernel (hKernel := Cert.Kernel.Gen.facts) := fun m g _ =>
  (θ_run _ _ _).mono (fun _ h => ⟨fun c => (h.1 c).2.2.2.2, h.2⟩) (Cert.Kernel.Run.run m g)

/-- The kernel on the ideal numbers runs, and leaves its arguments unchanged and every semaphore at zero. -/
theorem frameIdeal : Cert.quiescent_KernelIdeal (hKernelIdeal := Cert.KernelIdeal.Gen.facts) := fun m g _ =>
  (θ_run _ _ _).mono (fun _ h => ⟨fun c => (h.1 c).2.2.2.2, h.2⟩) (Cert.KernelIdeal.Run.run m g)

/-- The reference has no semaphore at all. -/
theorem no_sem (g : GSem Cert.ReferenceIdeal.nD Cert.ReferenceIdeal.τ Cert.ReferenceIdeal.sig) : False := by
  obtain ⟨t, b⟩ := g
  rcases b with b | b <;> exact absurd b.2 (Nat.not_lt_zero _)

/-- The reference on the ideal numbers runs, and leaves its arguments unchanged and every semaphore at zero. -/
theorem frameRef : Cert.quiescent_ReferenceIdeal (hReferenceIdeal := Cert.ReferenceIdeal.Gen.facts) := fun m g _ =>
  (θ_run _ _ _).mono (fun _ h => ⟨fun c => (h c).2.2.2.2, funext fun g => (no_sem g).elim⟩)
    (Cert.ReferenceIdeal.Value.run m g)

section agreement

variable (m : (l : Loc Cert.KernelIdeal.nD Cert.KernelIdeal.τ Cert.KernelIdeal.sig) → Buf (Elt Ideal) l)

open Cert.KernelIdeal.KernelValue (x0 x1 x2)

/-- The kernel's run, its four results given by the reference's terms at the kernel's arguments. -/
theorem kernelRun (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ fun r => ∀ c : Dev Cert.KernelIdeal.nD,
      r.2.mem ((c.tc : Thread Cert.KernelIdeal.nD Cert.KernelIdeal.τ).loc Cert.KernelIdeal.main_v7)
          = Cert.ReferenceIdeal.Read.val_main_v28 (F := Ideal) (x0 m c) (x1 m c) (x2 m c)
      ∧ r.2.mem ((c.tc : Thread Cert.KernelIdeal.nD Cert.KernelIdeal.τ).loc Cert.KernelIdeal.main_v6)
          = Cert.ReferenceIdeal.Read.val_main_v50 (F := Ideal) (x0 m c) (x1 m c) (x2 m c)
      ∧ r.2.mem ((c.tc : Thread Cert.KernelIdeal.nD Cert.KernelIdeal.τ).loc Cert.KernelIdeal.main_v5_4)
          = Cert.ReferenceIdeal.Read.val_main_v58 (F := Ideal) (x0 m c) (x1 m c) (x2 m c)
      ∧ r.2.mem ((c.tc : Thread Cert.KernelIdeal.nD Cert.KernelIdeal.τ).loc Cert.KernelIdeal.main_v8)
          = Cert.ReferenceIdeal.Read.val_main_v62 (F := Ideal) (x0 m c) (x1 m c) (x2 m c)
      ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2) := by
  refine (θ_run _ _ _).mono (fun r h c => ?_) (Cert.KernelIdeal.Run.run m g)
  obtain ⟨a, b, d, e, f⟩ := h.1 c
  exact ⟨a.trans (Cert.KernelIdeal.KernelValue.res_l m c),
    b.trans (Cert.KernelIdeal.KernelValue.res_z m c),
    d.trans (Cert.KernelIdeal.KernelValue.res_means m c), e.trans (Cert.KernelIdeal.KernelValue.res_pi m c), f⟩

end agreement

variable (m' : (l : Loc Cert.ReferenceIdeal.nD Cert.ReferenceIdeal.τ Cert.ReferenceIdeal.sig) → Buf (Elt Ideal) l)

/-- The reference's run, its four results as functions of its arguments `a0`, `a1` and `a2` on each core. -/
theorem referenceRun (g' : Dev Cert.ReferenceIdeal.nD → PrngReg)
    (a0 : Dev Cert.ReferenceIdeal.nD → FVec Ideal Cert.ReferenceIdeal.S16384x256 .f32)
    (a1 : Dev Cert.ReferenceIdeal.nD → FVec Ideal Cert.ReferenceIdeal.S1024x256 .f32)
    (a2 : Dev Cert.ReferenceIdeal.nD → FVec Ideal Cert.ReferenceIdeal.S1024 .f32)
    (e0 : ∀ c : Dev Cert.ReferenceIdeal.nD, m' ((c.tc : Thread Cert.ReferenceIdeal.nD Cert.ReferenceIdeal.τ).loc Cert.ReferenceIdeal.main_arg0) = a0 c)
    (e1 : ∀ c : Dev Cert.ReferenceIdeal.nD, m' ((c.tc : Thread Cert.ReferenceIdeal.nD Cert.ReferenceIdeal.τ).loc Cert.ReferenceIdeal.main_arg1) = a1 c)
    (e2 : ∀ c : Dev Cert.ReferenceIdeal.nD, m' ((c.tc : Thread Cert.ReferenceIdeal.nD Cert.ReferenceIdeal.τ).loc Cert.ReferenceIdeal.main_arg2) = a2 c) :
    θ_run (Cert.ReferenceIdeal.defs (F := Ideal)) (onTc (τ := Cert.ReferenceIdeal.τ) (Cert.ReferenceIdeal.main (F := Ideal)))
      ⟨m', fun _ => 0, g'⟩ fun r => ∀ c : Dev Cert.ReferenceIdeal.nD,
      r.2.mem ((c.tc : Thread Cert.ReferenceIdeal.nD Cert.ReferenceIdeal.τ).loc Cert.ReferenceIdeal.main_v28)
          = Cert.ReferenceIdeal.Read.val_main_v28 (F := Ideal) (a0 c) (a1 c) (a2 c)
      ∧ r.2.mem ((c.tc : Thread Cert.ReferenceIdeal.nD Cert.ReferenceIdeal.τ).loc Cert.ReferenceIdeal.main_v50)
          = Cert.ReferenceIdeal.Read.val_main_v50 (F := Ideal) (a0 c) (a1 c) (a2 c)
      ∧ r.2.mem ((c.tc : Thread Cert.ReferenceIdeal.nD Cert.ReferenceIdeal.τ).loc Cert.ReferenceIdeal.main_v58)
          = Cert.ReferenceIdeal.Read.val_main_v58 (F := Ideal) (a0 c) (a1 c) (a2 c)
      ∧ r.2.mem ((c.tc : Thread Cert.ReferenceIdeal.nD Cert.ReferenceIdeal.τ).loc Cert.ReferenceIdeal.main_v62)
          = Cert.ReferenceIdeal.Read.val_main_v62 (F := Ideal) (a0 c) (a1 c) (a2 c)
      ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
          = m' ((c.tc : Thread Cert.ReferenceIdeal.nD Cert.ReferenceIdeal.τ).loc Cert.ReferenceIdeal.main_arg2) := by
  refine (θ_run _ _ _).mono (fun r h c => ?_) (Cert.ReferenceIdeal.Value.run (F := Ideal) m' g')
  obtain ⟨a, b, d, e, f⟩ := h c
  rw [← e0 c, ← e1 c, ← e2 c]
  exact ⟨a.trans (Cert.ReferenceIdeal.Read.val_main_v28_eq _), b.trans (Cert.ReferenceIdeal.Read.val_main_v50_eq _),
    d.trans (Cert.ReferenceIdeal.Read.val_main_v58_eq _), e.trans (Cert.ReferenceIdeal.Read.val_main_v62_eq _), f⟩

/-- The idealized kernel and the reference, on equal arguments, end with all four results equal. -/
theorem agree : Cert.algebraic_KernelIdeal_ReferenceIdeal (hKernelIdeal := Cert.KernelIdeal.Gen.facts)
    (hReferenceIdeal := Cert.ReferenceIdeal.Gen.facts) :=
  fun m g m' g' _ hag =>
    ⟨fun c => Cert.ReferenceIdeal.Read.val_main_v28 (F := Ideal) (Cert.KernelIdeal.KernelValue.x0 m c)
        (Cert.KernelIdeal.KernelValue.x1 m c) (Cert.KernelIdeal.KernelValue.x2 m c),
      fun c => Cert.ReferenceIdeal.Read.val_main_v50 (F := Ideal) (Cert.KernelIdeal.KernelValue.x0 m c)
        (Cert.KernelIdeal.KernelValue.x1 m c) (Cert.KernelIdeal.KernelValue.x2 m c),
      fun c => Cert.ReferenceIdeal.Read.val_main_v58 (F := Ideal) (Cert.KernelIdeal.KernelValue.x0 m c)
        (Cert.KernelIdeal.KernelValue.x1 m c) (Cert.KernelIdeal.KernelValue.x2 m c),
      fun c => Cert.ReferenceIdeal.Read.val_main_v62 (F := Ideal) (Cert.KernelIdeal.KernelValue.x0 m c)
        (Cert.KernelIdeal.KernelValue.x1 m c) (Cert.KernelIdeal.KernelValue.x2 m c),
      kernelRun m g,
      referenceRun m' g' (fun c => Cert.KernelIdeal.KernelValue.x0 m c) (fun c => Cert.KernelIdeal.KernelValue.x1 m c)
        (fun c => Cert.KernelIdeal.KernelValue.x2 m c) (fun c => (hag c).1) (fun c => (hag c).2.1) (fun c => (hag c).2.2)⟩

/-- Everything claimed. -/
theorem claim : Cert.Claim := ⟨Cert.Kernel.Gen.facts, Cert.KernelIdeal.Gen.facts, Cert.ReferenceIdeal.Gen.facts,
  frameBits, frameIdeal, frameRef, trivial, agree⟩

end Cert.Proof

end
